-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_labelled [hPre_finite_and_labelled : Cert.Pre_finite_and_labelled.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_labelled [hPre_finite_and_labelled : Cert.Pre_finite_and_labelled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_and_labelled [hKernelIdeal : Cert.KernelIdeal.Facts] [hPre_finite_and_labelled : Cert.Pre_finite_and_labelled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_labelled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_and_labelled [hReferenceIdeal : Cert.ReferenceIdeal.Facts] [hPre_finite_and_labelled : Cert.Pre_finite_and_labelled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_labelled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_and_labelled [hKernelIdeal : Cert.KernelIdeal.Facts] [hReferenceIdeal : Cert.ReferenceIdeal.Facts] [hPre_finite_and_labelled : Cert.Pre_finite_and_labelled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_labelled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_values)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_values) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_and_labelled : Cert.Pre_finite_and_labelled.Facts),
    quiescent_Kernel (hKernel := hKernel)
    ∧ quiescent_KernelIdeal (hKernelIdeal := hKernelIdeal)
    ∧ quiescent_KernelIdeal_pre_finite_and_labelled (hKernelIdeal := hKernelIdeal) (hPre_finite_and_labelled := hPre_finite_and_labelled)
    ∧ quiescent_ReferenceIdeal (hReferenceIdeal := hReferenceIdeal)
    ∧ quiescent_ReferenceIdeal_pre_finite_and_labelled (hReferenceIdeal := hReferenceIdeal) (hPre_finite_and_labelled := hPre_finite_and_labelled)
    ∧ preserves_Kernel_KernelIdeal
    ∧ algebraic_KernelIdeal_ReferenceIdeal_pre_finite_and_labelled (hKernelIdeal := hKernelIdeal) (hReferenceIdeal := hReferenceIdeal) (hPre_finite_and_labelled := hPre_finite_and_labelled)
-- ==== Pre_finite_and_labelled.lean ====
abbrev S256x2048 : Shape := ⟨2, ![256, 2048]⟩
abbrev S16384x2048 : Shape := ⟨2, ![16384, 2048]⟩
abbrev S16384 : Shape := ⟨1, ![16384]⟩
abbrev S51x300 : Shape := ⟨2, ![51, 300]⟩
abbrev S300x1024 : Shape := ⟨2, ![300, 1024]⟩
abbrev S1024 : Shape := ⟨1, ![1024]⟩
abbrev S1024x2048 : Shape := ⟨2, ![1024, 2048]⟩
abbrev S2048 : Shape := ⟨1, ![2048]⟩
abbrev S2048x2048 : Shape := ⟨2, ![2048, 2048]⟩
abbrev S4096x4096 : Shape := ⟨2, ![4096, 4096]⟩
abbrev S4096 : Shape := ⟨1, ![4096]⟩
abbrev S_ : Shape := ⟨0, ![]⟩
abbrev S4096x2048 : Shape := ⟨2, ![4096, 2048]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S16384 : S_.BroadcastsInDim S16384 (![] : Fin 0 → Fin S16384.rank)
  reducesTo_S16384_S_d0 : S16384.ReducesTo [0] S_
  bcast_S_S51x300 : S_.BroadcastsInDim S51x300 (![] : Fin 0 → Fin S51x300.rank)
  reducesTo_S51x300_S_d0_1 : S51x300.ReducesTo [0, 1] S_
  bcast_S_S300x1024 : S_.BroadcastsInDim S300x1024 (![] : Fin 0 → Fin S300x1024.rank)
  reducesTo_S300x1024_S_d0_1 : S300x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  slices_S4096x4096_S4096x2048_0_0 : S4096x4096.Slices ![0, 0] S4096x2048
  bcast_S_S4096x2048 : S_.BroadcastsInDim S4096x2048 (![] : Fin 0 → Fin S4096x2048.rank)
  reducesTo_S4096x2048_S_d0_1 : S4096x2048.ReducesTo [0, 1] S_

variable [Facts]

def fn_part3 {F : FTy → Type} [FloatOps F] (main_arg12 : FVec F S4096x4096 .f32) (main_v50 : IVec S_ 1) : IVec S_ 1 :=
  let main_v51 : FVec F S4096x2048 .f32 := (extractStridedSlice S4096x2048 ![0, 0] · slices_S4096x4096_S4096x2048_0_0) main_arg12
  let main_v52 : FVec F S4096x2048 .f32 := Host.absf main_v51
  let main_cst_19 : FVec F S_ .f32 := constant S_ .f32 0x7F800000#32
  let main_v53 : FVec F S4096x2048 .f32 := broadcastInDim S4096x2048 ![] bcast_S_S4096x2048 main_cst_19
  let main_v54 : IVec S4096x2048 1 := cmpf .olt main_v52 main_v53
  let main_c_20 : IVec S_ 1 := constantI S_ 1 1#1
  let main_v55 : IVec S_ 1 := (fun x v => Host.reduce IntOp.andi x v reducesTo_S4096x2048_S_d0_1 h_S_) main_v54 main_c_20
  let main_v56 : IVec S_ 1 := andi main_v50 main_v55
  main_v56

def fn_part2 {F : FTy → Type} [FloatOps F] (main_arg9 : FVec F S2048 .f32) (main_arg10 : FVec F S2048x2048 .f32) (main_arg11 : FVec F S2048 .f32) (main_arg12 : FVec F S4096x4096 .f32) (main_v30 : IVec S_ 1) (main_v33 : IVec S2048x2048 1) : IVec S_ 1 :=
  let main_c_12 : IVec S_ 1 := constantI S_ 1 1#1
  let main_v34 : IVec S_ 1 := (fun x v => Host.reduce IntOp.andi x v reducesTo_S2048x2048_S_d0_1 h_S_) main_v33 main_c_12
  let main_v35 : IVec S_ 1 := andi main_v30 main_v34
  let main_v36 : FVec F S2048 .f32 := Host.absf main_arg9
  let main_cst_13 : FVec F S_ .f32 := constant S_ .f32 0x7F800000#32
  let main_v37 : FVec F S2048 .f32 := broadcastInDim S2048 ![] bcast_S_S2048 main_cst_13
  let main_v38 : IVec S2048 1 := cmpf .olt main_v36 main_v37
  let main_c_14 : IVec S_ 1 := constantI S_ 1 1#1
  let main_v39 : IVec S_ 1 := (fun x v => Host.reduce IntOp.andi x v reducesTo_S2048_S_d0 h_S_) main_v38 main_c_14
  let main_v40 : IVec S_ 1 := andi main_v35 main_v39
  let main_v41 : FVec F S2048x2048 .f32 := Host.absf main_arg10
  let main_cst_15 : FVec F S_ .f32 := constant S_ .f32 0x7F800000#32
  let main_v42 : FVec F S2048x2048 .f32 := broadcastInDim S2048x2048 ![] bcast_S_S2048x2048 main_cst_15
  let main_v43 : IVec S2048x2048 1 := cmpf .olt main_v41 main_v42
  let main_c_16 : IVec S_ 1 := constantI S_ 1 1#1
  let main_v44 : IVec S_ 1 := (fun x v => Host.reduce IntOp.andi x v reducesTo_S2048x2048_S_d0_1 h_S_) main_v43 main_c_16
  let main_v45 : IVec S_ 1 := andi main_v40 main_v44
  let main_v46 : FVec F S2048 .f32 := Host.absf main_arg11
  let main_cst_17 : FVec F S_ .f32 := constant S_ .f32 0x7F800000#32
  let main_v47 : FVec F S2048 .f32 := broadcastInDim S2048 ![] bcast_S_S2048 main_cst_17
  let main_v48 : IVec S2048 1 := cmpf .olt main_v46 main_v47
  let main_c_18 : IVec S_ 1 := constantI S_ 1 1#1
  let main_v49 : IVec S_ 1 := (fun x v => Host.reduce IntOp.andi x v reducesTo_S2048_S_d0 h_S_) main_v48 main_c_18
  let main_v50 : IVec S_ 1 := andi main_v45 main_v49
  fn_part3 (F := F) main_arg12 main_v50

def fn_part1 {F : FTy → Type} [FloatOps F] (main_arg4 : FVec F S300x1024 .f32) (main_arg6 : FVec F S1024x2048 .f32) (main_arg8 : FVec F S2048x2048 .f32) (main_arg9 : FVec F S2048 .f32) (main_arg10 : FVec F S2048x2048 .f32) (main_arg11 : FVec F S2048 .f32) (main_arg12 : FVec F S4096x4096 .f32) (main_v15 : IVec S_ 1) (main_v16 : FVec F S51x300 .f32) : IVec S_ 1 :=
  let main_cst_5 : FVec F S_ .f32 := constant S_ .f32 0x7F800000#32
  let main_v17 : FVec F S51x300 .f32 := broadcastInDim S51x300 ![] bcast_S_S51x300 main_cst_5
  let main_v18 : IVec S51x300 1 := cmpf .olt main_v16 main_v17
  let main_c_6 : IVec S_ 1 := constantI S_ 1 1#1
  let main_v19 : IVec S_ 1 := (fun x v => Host.reduce IntOp.andi x v reducesTo_S51x300_S_d0_1 h_S_) main_v18 main_c_6
  let main_v20 : IVec S_ 1 := andi main_v15 main_v19
  let main_v21 : FVec F S300x1024 .f32 := Host.absf main_arg4
  let main_cst_7 : FVec F S_ .f32 := constant S_ .f32 0x7F800000#32
  let main_v22 : FVec F S300x1024 .f32 := broadcastInDim S300x1024 ![] bcast_S_S300x1024 main_cst_7
  let main_v23 : IVec S300x1024 1 := cmpf .olt main_v21 main_v22
  let main_c_8 : IVec S_ 1 := constantI S_ 1 1#1
  let main_v24 : IVec S_ 1 := (fun x v => Host.reduce IntOp.andi x v reducesTo_S300x1024_S_d0_1 h_S_) main_v23 main_c_8
  let main_v25 : IVec S_ 1 := andi main_v20 main_v24
  let main_v26 : FVec F S1024x2048 .f32 := Host.absf main_arg6
  let main_cst_9 : FVec F S_ .f32 := constant S_ .f32 0x7F800000#32
  let main_v27 : FVec F S1024x2048 .f32 := broadcastInDim S1024x2048 ![] bcast_S_S1024x2048 main_cst_9
  let main_v28 : IVec S1024x2048 1 := cmpf .olt main_v26 main_v27
  let main_c_10 : IVec S_ 1 := constantI S_ 1 1#1
  let main_v29 : IVec S_ 1 := (fun x v => Host.reduce IntOp.andi x v reducesTo_S1024x2048_S_d0_1 h_S_) main_v28 main_c_10
  let main_v30 : IVec S_ 1 := andi main_v25 main_v29
  let main_v31 : FVec F S2048x2048 .f32 := Host.absf main_arg8
  let main_cst_11 : FVec F S_ .f32 := constant S_ .f32 0x7F800000#32
  let main_v32 : FVec F S2048x2048 .f32 := broadcastInDim S2048x2048 ![] bcast_S_S2048x2048 main_cst_11
  let main_v33 : IVec S2048x2048 1 := cmpf .olt main_v31 main_v32
  fn_part2 (F := F) main_arg9 main_arg10 main_arg11 main_arg12 main_v30 main_v33

def fn {F : FTy → Type} [FloatOps F] (main_arg0 : FVec F S256x2048 .f32) (main_arg1 : FVec F S16384x2048 .f32) (main_arg2 : IVec S16384 32) (main_arg3 : FVec F S51x300 .f32) (main_arg4 : FVec F S300x1024 .f32) (main_arg5 : FVec F S1024 .f32) (main_arg6 : FVec F S1024x2048 .f32) (main_arg7 : FVec F S2048 .f32) (main_arg8 : FVec F S2048x2048 .f32) (main_arg9 : FVec F S2048 .f32) (main_arg10 : FVec F S2048x2048 .f32) (main_arg11 : FVec F S2048 .f32) (main_arg12 : FVec F S4096x4096 .f32) (main_arg13 : FVec F S4096 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 51#32
  let main_v11 : IVec S16384 32 := broadcastInDim S16384 ![] bcast_S_S16384 main_c_3
  let main_v12 : IVec S16384 1 := cmpi .slt main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_v16 : FVec F S51x300 .f32 := Host.absf main_arg3
  fn_part1 (F := F) main_arg4 main_arg6 main_arg8 main_arg9 main_arg10 main_arg11 main_arg12 main_v15 main_v16
-- ==== Kernel.lean ====
abbrev S256x2048 : Shape := ⟨2, ![256, 2048]⟩
abbrev S16384x2048 : Shape := ⟨2, ![16384, 2048]⟩
abbrev S16384 : Shape := ⟨1, ![16384]⟩
abbrev S51x300 : Shape := ⟨2, ![51, 300]⟩
abbrev S300x1024 : Shape := ⟨2, ![300, 1024]⟩
abbrev S1024 : Shape := ⟨1, ![1024]⟩
abbrev S1024x2048 : Shape := ⟨2, ![1024, 2048]⟩
abbrev S2048 : Shape := ⟨1, ![2048]⟩
abbrev S2048x2048 : Shape := ⟨2, ![2048, 2048]⟩
abbrev S4096x4096 : Shape := ⟨2, ![4096, 4096]⟩
abbrev S4096 : Shape := ⟨1, ![4096]⟩
abbrev S32768x128 : Shape := ⟨2, ![32768, 128]⟩
abbrev S128x256 : Shape := ⟨2, ![128, 256]⟩
abbrev S2048x128 : Shape := ⟨2, ![2048, 128]⟩
abbrev S8x256 : Shape := ⟨2, ![8, 256]⟩
abbrev S256 : Shape := ⟨1, ![256]⟩
abbrev S256x1 : Shape := ⟨2, ![256, 1]⟩
abbrev S1024x1 : Shape := ⟨2, ![1024, 1]⟩
abbrev S256x1024 : Shape := ⟨2, ![256, 1024]⟩
abbrev S256x8x128 : Shape := ⟨3, ![256, 8, 128]⟩
abbrev S8x256x128 : Shape := ⟨3, ![8, 256, 128]⟩
abbrev S256x128 : Shape := ⟨2, ![256, 128]⟩
abbrev S128x256x128 : Shape := ⟨3, ![128, 256, 128]⟩
abbrev S256x128x128 : Shape := ⟨3, ![256, 128, 128]⟩
abbrev S256x16384 : Shape := ⟨2, ![256, 16384]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩
abbrev S256x8x2048 : Shape := ⟨3, ![256, 8, 2048]⟩
abbrev S128 : Shape := ⟨1, ![128]⟩
abbrev S1x128 : Shape := ⟨2, ![1, 128]⟩
abbrev S128x2048 : Shape := ⟨2, ![128, 2048]⟩
abbrev S1x1024 : Shape := ⟨2, ![1, 1024]⟩
abbrev S1x2048 : Shape := ⟨2, ![1, 2048]⟩
abbrev S51x2048 : Shape := ⟨2, ![51, 2048]⟩
abbrev S51x1024 : Shape := ⟨2, ![51, 1024]⟩

abbrev nBuf : Space → Nat
  | .hbm => 123
  | .vmem => 41
  | .smem => 0
  | _ => 0

abbrev bufTy : (tb : Table) → Fin (tcTables nBuf tb) → BufTy
  | .hbm, ⟨0, _⟩ => ⟨S256x2048, .f32⟩
  | .hbm, ⟨1, _⟩ => ⟨S16384x2048, .f32⟩
  | .hbm, ⟨2, _⟩ => ⟨S16384, .i32⟩
  | .hbm, ⟨3, _⟩ => ⟨S51x300, .f32⟩
  | .hbm, ⟨4, _⟩ => ⟨S300x1024, .f32⟩
  | .hbm, ⟨5, _⟩ => ⟨S1024, .f32⟩
  | .hbm, ⟨6, _⟩ => ⟨S1024x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S4096x4096, .f32⟩
  | .hbm, ⟨13, _⟩ => ⟨S4096, .f32⟩
  | .hbm, ⟨14, _⟩ => ⟨S32768x128, .f32⟩
  | .hbm, ⟨15, _⟩ => ⟨S128x256, .f32⟩
  | .hbm, ⟨16, _⟩ => ⟨S256x128, .f32⟩
  | .hbm, ⟨17, _⟩ => ⟨S128x256x128, .f32⟩
  | .hbm, ⟨18, _⟩ => ⟨S256x128x128, .f32⟩
  | .hbm, ⟨19, _⟩ => ⟨S256x16384, .f32⟩
  | .hbm, ⟨20, _⟩ => ⟨S256x8, .f32⟩
  | .hbm, ⟨21, _⟩ => ⟨S256x8, .i32⟩
  | .hbm, ⟨22, _⟩ => ⟨S_, .i32⟩
  | .hbm, ⟨23, _⟩ => ⟨S256x8, .i32⟩
  | .hbm, ⟨24, _⟩ => ⟨S256x8, .i1⟩
  | .hbm, ⟨25, _⟩ => ⟨S_, .i32⟩
  | .hbm, ⟨26, _⟩ => ⟨S256x8, .i32⟩
  | .hbm, ⟨27, _⟩ => ⟨S256x8, .i32⟩
  | .hbm, ⟨28, _⟩ => ⟨S256x8, .i32⟩
  | .hbm, ⟨29, _⟩ => ⟨S256x8x1, .i32⟩
  | .hbm, ⟨30, _⟩ => ⟨S1, .i32⟩
  | .hbm, ⟨31, _⟩ => ⟨S_, .i32⟩
  | .hbm, ⟨32, _⟩ => ⟨S256x8x1, .i32⟩
  | .hbm, ⟨33, _⟩ => ⟨S256x8x1, .i1⟩
  | .hbm, ⟨34, _⟩ => ⟨S1x1x1, .i32⟩
  | .hbm, ⟨35, _⟩ => ⟨S256x8x1, .i32⟩
  | .hbm, ⟨36, _⟩ => ⟨S256x8x1, .i1⟩
  | .hbm, ⟨37, _⟩ => ⟨S256x8x1, .i1⟩
  | .hbm, ⟨38, _⟩ => ⟨S_, .i1⟩
  | .hbm, ⟨39, _⟩ => ⟨S256x8, .i1⟩
  | .hbm, ⟨40, _⟩ => ⟨S256x8x2048, .f32⟩
  | .hbm, ⟨41, _⟩ => ⟨S256x8x2048, .i1⟩
  | .hbm, ⟨42, _⟩ => ⟨S_, .f32⟩
  | .hbm, ⟨43, _⟩ => ⟨S256x8x2048, .f32⟩
  | .hbm, ⟨44, _⟩ => ⟨S256x8x2048, .f32⟩
  | .hbm, ⟨45, _⟩ => ⟨S_, .i32⟩
  | .hbm, ⟨46, _⟩ => ⟨S256x8, .i32⟩
  | .hbm, ⟨47, _⟩ => ⟨S256x8, .i1⟩
  | .hbm, ⟨48, _⟩ => ⟨S_, .i32⟩
  | .hbm, ⟨49, _⟩ => ⟨S256x8, .i32⟩
  | .hbm, ⟨50, _⟩ => ⟨S256x8, .i32⟩
  | .hbm, ⟨51, _⟩ => ⟨S256x8, .i32⟩
  | .hbm, ⟨52, _⟩ => ⟨S256x8x1, .i32⟩
  | .hbm, ⟨53, _⟩ => ⟨S1, .i32⟩
  | .hbm, ⟨54, _⟩ => ⟨S_, .i32⟩
  | .hbm, ⟨55, _⟩ => ⟨S256x8x1, .i32⟩
  | .hbm, ⟨56, _⟩ => ⟨S256x8x1, .i1⟩
  | .hbm, ⟨57, _⟩ => ⟨S1x1x1, .i32⟩
  | .hbm, ⟨58, _⟩ => ⟨S256x8x1, .i32⟩
  | .hbm, ⟨59, _⟩ => ⟨S256x8x1, .i1⟩
  | .hbm, ⟨60, _⟩ => ⟨S256x8x1, .i1⟩
  | .hbm, ⟨61, _⟩ => ⟨S_, .i1⟩
  | .hbm, ⟨62, _⟩ => ⟨S256x8, .i1⟩
  | .hbm, ⟨63, _⟩ => ⟨S256x8, .i32⟩
  | .hbm, ⟨64, _⟩ => ⟨S_, .i32⟩
  | .hbm, ⟨65, _⟩ => ⟨S256x8, .i32⟩
  | .hbm, ⟨66, _⟩ => ⟨S256x8, .i32⟩
  | .hbm, ⟨67, _⟩ => ⟨S256x2048, .f32⟩
  | .hbm, ⟨68, _⟩ => ⟨S_, .f32⟩
  | .hbm, ⟨69, _⟩ => ⟨S2048, .f32⟩
  | .hbm, ⟨70, _⟩ => ⟨S256x2048, .f32⟩
  | .hbm, ⟨71, _⟩ => ⟨S1x1024, .f32⟩
  | .hbm, ⟨72, _⟩ => ⟨S1x2048, .f32⟩
  | .hbm, ⟨73, _⟩ => ⟨S51x2048, .f32⟩
  | .hbm, ⟨74, _⟩ => ⟨S_, .i32⟩
  | .hbm, ⟨75, _⟩ => ⟨S256x8, .i32⟩
  | .hbm, ⟨76, _⟩ => ⟨S256x8, .i1⟩
  | .hbm, ⟨77, _⟩ => ⟨S_, .i32⟩
  | .hbm, ⟨78, _⟩ => ⟨S256x8, .i32⟩
  | .hbm, ⟨79, _⟩ => ⟨S256x8, .i32⟩
  | .hbm, ⟨80, _⟩ => ⟨S256x8, .i32⟩
  | .hbm, ⟨81, _⟩ => ⟨S256x8x1, .i32⟩
  | .hbm, ⟨82, _⟩ => ⟨S1, .i32⟩
  | .hbm, ⟨83, _⟩ => ⟨S_, .i32⟩
  | .hbm, ⟨84, _⟩ => ⟨S256x8x1, .i32⟩
  | .hbm, ⟨85, _⟩ => ⟨S256x8x1, .i1⟩
  | .hbm, ⟨86, _⟩ => ⟨S1x1x1, .i32⟩
  | .hbm, ⟨87, _⟩ => ⟨S256x8x1, .i32⟩
  | .hbm, ⟨88, _⟩ => ⟨S256x8x1, .i1⟩
  | .hbm, ⟨89, _⟩ => ⟨S256x8x1, .i1⟩
  | .hbm, ⟨90, _⟩ => ⟨S_, .i1⟩
  | .hbm, ⟨91, _⟩ => ⟨S256x8, .i1⟩
  | .hbm, ⟨92, _⟩ => ⟨S256x8x2048, .f32⟩
  | .hbm, ⟨93, _⟩ => ⟨S256x8x2048, .i1⟩
  | .hbm, ⟨94, _⟩ => ⟨S_, .f32⟩
  | .hbm, ⟨95, _⟩ => ⟨S256x8x2048, .f32⟩
  | .hbm, ⟨96, _⟩ => ⟨S256x8x2048, .f32⟩
  | .hbm, ⟨97, _⟩ => ⟨S256x8, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S256x8, .f32⟩
  | .hbm, ⟨102, _⟩ => ⟨S256x8, .f32⟩
  | .hbm, ⟨103, _⟩ => ⟨S_, .f32⟩
  | .hbm, ⟨104, _⟩ => ⟨S256, .f32⟩
  | .hbm, ⟨105, _⟩ => ⟨S_, .f32⟩
  | .hbm, ⟨106, _⟩ => ⟨S256, .f32⟩
  | .hbm, ⟨107, _⟩ => ⟨S256, .f32⟩
  | .hbm, ⟨108, _⟩ => ⟨S256x1, .f32⟩
  | .hbm, ⟨109, _⟩ => ⟨S256x8, .f32⟩
  | .hbm, ⟨110, _⟩ => ⟨S256x8, .f32⟩
  | .hbm, ⟨111, _⟩ => ⟨S256x8, .f32⟩
  | .hbm, ⟨112, _⟩ => ⟨S_, .f32⟩
  | .hbm, ⟨113, _⟩ => ⟨S256, .f32⟩
  | .hbm, ⟨114, _⟩ => ⟨S256x1, .f32⟩
  | .hbm, ⟨115, _⟩ => ⟨S256x8, .f32⟩
  | .hbm, ⟨116, _⟩ => ⟨S256x8, .f32⟩
  | .hbm, ⟨117, _⟩ => ⟨S256x2048, .f32⟩
  | .hbm, ⟨118, _⟩ => ⟨S256x2048, .f32⟩
  | .hbm, ⟨119, _⟩ => ⟨S2048x2048, .f32⟩
  | .hbm, ⟨120, _⟩ => ⟨S2048x2048, .f32⟩
  | .hbm, ⟨121, _⟩ => ⟨S2048, .f32⟩
  | .hbm, ⟨122, _⟩ => ⟨S256x2048, .f32⟩
  | .local _ .vmem, ⟨0, _⟩ => ⟨S256x2048, .f32⟩
  | .local _ .vmem, ⟨1, _⟩ => ⟨S1024x2048, .f32⟩
  | .local _ .vmem, ⟨2, _⟩ => ⟨S1024x2048, .f32⟩
  | .local _ .vmem, ⟨3, _⟩ => ⟨S2048x128, .f32⟩
  | .local _ .vmem, ⟨4, _⟩ => ⟨S2048x128, .f32⟩
  | .local _ .vmem, ⟨5, _⟩ => ⟨S8x256, .f32⟩
  | .local _ .vmem, ⟨6, _⟩ => ⟨S8x256, .f32⟩
  | .local _ .vmem, ⟨7, _⟩ => ⟨S128x256, .f32⟩
  | .local _ .vmem, ⟨8, _⟩ => ⟨S256x128, .f32⟩
  | .local _ .vmem, ⟨9, _⟩ => ⟨S256x2048, .f32⟩
  | .local _ .vmem, ⟨10, _⟩ => ⟨S2048x128, .f32⟩
  | .local _ .vmem, ⟨11, _⟩ => ⟨S2048x128, .f32⟩
  | .local _ .vmem, ⟨12, _⟩ => ⟨S128, .f32⟩
  | .local _ .vmem, ⟨13, _⟩ => ⟨S128, .f32⟩
  | .local _ .vmem, ⟨14, _⟩ => ⟨S256x128, .f32⟩
  | .local _ .vmem, ⟨15, _⟩ => ⟨S256x128, .f32⟩
  | .local _ .vmem, ⟨16, _⟩ => ⟨S256x2048, .f32⟩
  | .local _ .vmem, ⟨17, _⟩ => ⟨S128x2048, .f32⟩
  | .local _ .vmem, ⟨18, _⟩ => ⟨S128x2048, .f32⟩
  | .local _ .vmem, ⟨19, _⟩ => ⟨S128, .f32⟩
  | .local _ .vmem, ⟨20, _⟩ => ⟨S128, .f32⟩
  | .local _ .vmem, ⟨21, _⟩ => ⟨S256x128, .f32⟩
  | .local _ .vmem, ⟨22, _⟩ => ⟨S256x128, .f32⟩
  | .local _ .vmem, ⟨23, _⟩ => ⟨S51x300, .f32⟩
  | .local _ .vmem, ⟨24, _⟩ => ⟨S300x1024, .f32⟩
  | .local _ .vmem, ⟨25, _⟩ => ⟨S1x1024, .f32⟩
  | .local _ .vmem, ⟨26, _⟩ => ⟨S1024x2048, .f32⟩
  | .local _ .vmem, ⟨27, _⟩ => ⟨S1x2048, .f32⟩
  | .local _ .vmem, ⟨28, _⟩ => ⟨S51x2048, .f32⟩
  | .local _ .vmem, ⟨29, _⟩ => ⟨S256x2048, .f32⟩
  | .local _ .vmem, ⟨30, _⟩ => ⟨S256x2048, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S128, .f32⟩
  | .local _ .vmem, ⟨36, _⟩ => ⟨S128, .f32⟩
  | .local _ .vmem, ⟨37, _⟩ => ⟨S256x128, .f32⟩
  | .local _ .vmem, ⟨38, _⟩ => ⟨S256x128, .f32⟩
  | .local _ .vmem, ⟨39, _⟩ => ⟨S256x128, .f32⟩
  | .local _ .vmem, ⟨40, _⟩ => ⟨S256x128, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_values : Ref sig .tc := ⟨.hbm, 20, rfl⟩
abbrev main_indices : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v5 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_c_4 : Ref sig .tc := ⟨.hbm, 64, rfl⟩
abbrev main_call1_v14 : Ref sig .tc := ⟨.hbm, 65, rfl⟩
abbrev main_v6 : Ref sig .tc := ⟨.hbm, 66, rfl⟩
abbrev main_v7 : Ref sig .tc := ⟨.hbm, 67, rfl⟩
abbrev main_cst : Ref sig .tc := ⟨.hbm, 68, rfl⟩
abbrev main_v8 : Ref sig .tc := ⟨.hbm, 69, rfl⟩
abbrev main_v9 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_call2_cst : Ref sig .tc := ⟨.hbm, 94, rfl⟩
abbrev main_call2_v15 : Ref sig .tc := ⟨.hbm, 95, rfl⟩
abbrev main_v13 : Ref sig .tc := ⟨.hbm, 96, rfl⟩
abbrev main_v14 : Ref sig .tc := ⟨.hbm, 97, rfl⟩
abbrev main_cst_0 : Ref sig .tc := ⟨.hbm, 98, rfl⟩
abbrev main_v15 : Ref sig .tc := ⟨.hbm, 99, rfl⟩
abbrev main_v16 : Ref sig .tc := ⟨.hbm, 100, rfl⟩
abbrev main_v17 : Ref sig .tc := ⟨.hbm, 101, rfl⟩
abbrev main_v18 : Ref sig .tc := ⟨.hbm, 102, rfl⟩
abbrev main_cst_1 : Ref sig .tc := ⟨.hbm, 103, rfl⟩
abbrev main_v19 : Ref sig .tc := ⟨.hbm, 104, rfl⟩
abbrev main_cst_2 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_cst_3 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg4_0 : Ref sig .tc := ⟨.vmem, 27, rfl⟩
abbrev cc4_stg5_0 : Ref sig .tc := ⟨.vmem, 28, rfl⟩
abbrev cc5_stg0_0 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc5_stg3_0 : Ref sig .tc := ⟨.vmem, 33, rfl⟩
abbrev cc5_stg3_1 : Ref sig .tc := ⟨.vmem, 34, rfl⟩
abbrev cc5_stg4_0 : Ref sig .tc := ⟨.vmem, 35, rfl⟩
abbrev cc5_stg4_1 : Ref sig .tc := ⟨.vmem, 36, rfl⟩
abbrev cc5_stg5_0 : Ref sig .tc := ⟨.vmem, 37, rfl⟩
abbrev cc5_stg5_1 : Ref sig .tc := ⟨.vmem, 38, rfl⟩
abbrev cc5_stg6_0 : Ref sig .tc := ⟨.vmem, 39, rfl⟩
abbrev cc5_stg6_1 : Ref sig .tc := ⟨.vmem, 40, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc2_sem0_0 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc3_sem0_0 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc4_sem0_0 : DmaSem sig := 23
abbrev cc4_sem1_0 : DmaSem sig := 24
abbrev cc4_sem2_0 : DmaSem sig := 25
abbrev cc4_sem3_0 : DmaSem sig := 26
abbrev cc4_sem4_0 : DmaSem sig := 27
abbrev cc4_sem5_0 : DmaSem sig := 28
abbrev cc5_sem0_0 : DmaSem sig := 29
abbrev cc5_sem1_0 : DmaSem sig := 30
abbrev cc5_sem2_0 : DmaSem sig := 31
abbrev cc5_sem2_1 : DmaSem sig := 32
abbrev cc5_sem3_0 : DmaSem sig := 33
abbrev cc5_sem3_1 : DmaSem sig := 34
abbrev cc5_sem4_0 : DmaSem sig := 35
abbrev cc5_sem4_1 : DmaSem sig := 36
abbrev cc5_sem5_0 : DmaSem sig := 37
abbrev cc5_sem5_1 : DmaSem sig := 38
abbrev cc5_sem6_0 : DmaSem sig := 39
abbrev cc5_sem6_1 : DmaSem sig := 40

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

abbrev stage1_0 : Fin 1 → Memref sig .tc .vmem S128x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 1 → Nat :=
  let arg0 : BitVec 32 := BitVec.ofNat 32 (i 0).val
  let c0_i32 : BitVec 32 := 0#32
  ![arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S256x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  ![arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S256x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S128x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := .none

abbrev stage4_0 : Fin 1 → Memref sig .tc .vmem S51x300 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S300x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S1024x2048 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S1x2048 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S51x2048 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_4 (i : grid5.Coords) : Fin 1 → Nat :=
  let arg0 : BitVec 32 := BitVec.ofNat 32 (i 0).val
  let c0_i32 : BitVec 32 := 0#32
  ![arg0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S256x2048 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S256x2048 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2048x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2048x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S256x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S256x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]
-- ==== ReferenceIdeal.lean ====
abbrev S256x2048 : Shape := ⟨2, ![256, 2048]⟩
abbrev S16384x2048 : Shape := ⟨2, ![16384, 2048]⟩
abbrev S16384 : Shape := ⟨1, ![16384]⟩
abbrev S51x300 : Shape := ⟨2, ![51, 300]⟩
abbrev S300x1024 : Shape := ⟨2, ![300, 1024]⟩
abbrev S1024 : Shape := ⟨1, ![1024]⟩
abbrev S1024x2048 : Shape := ⟨2, ![1024, 2048]⟩
abbrev S2048 : Shape := ⟨1, ![2048]⟩
abbrev S2048x2048 : Shape := ⟨2, ![2048, 2048]⟩
abbrev S4096x4096 : Shape := ⟨2, ![4096, 4096]⟩
abbrev S4096 : Shape := ⟨1, ![4096]⟩
abbrev S_ : Shape := ⟨0, ![]⟩
abbrev S256 : Shape := ⟨1, ![256]⟩
abbrev S256x1 : Shape := ⟨2, ![256, 1]⟩
abbrev S16384x1 : Shape := ⟨2, ![16384, 1]⟩
abbrev S2048x16384 : Shape := ⟨2, ![2048, 16384]⟩
abbrev S256x16384 : Shape := ⟨2, ![256, 16384]⟩
abbrev S256x8 : Shape := ⟨2, ![256, 8]⟩
abbrev S256x8x1 : Shape := ⟨3, ![256, 8, 1]⟩
abbrev S1 : Shape := ⟨1, ![1]⟩
abbrev S1x1x1 : Shape := ⟨3, ![1, 1, 1]⟩
abbrev S256x8x2048 : Shape := ⟨3, ![256, 8, 2048]⟩
abbrev S256x8x300 : Shape := ⟨3, ![256, 8, 300]⟩
abbrev S256x8x1024 : Shape := ⟨3, ![256, 8, 1024]⟩
abbrev S1x1x1024 : Shape := ⟨3, ![1, 1, 1024]⟩
abbrev S1x1x2048 : Shape := ⟨3, ![1, 1, 2048]⟩
abbrev S1x2048 : Shape := ⟨2, ![1, 2048]⟩
abbrev S256x8x4096 : Shape := ⟨3, ![256, 8, 4096]⟩
abbrev S1x1x4096 : Shape := ⟨3, ![1, 1, 4096]⟩
abbrev S256x4096 : Shape := ⟨2, ![256, 4096]⟩

abbrev nBuf : Space → Nat
  | .hbm => 159
  | .vmem => 0
  | .smem => 0
  | _ => 0

abbrev hbmTy0_0 (i : Nat) : BufTy := match i % 128 with
  | 0 => ⟨S256x2048, .f32⟩
  | 1 => ⟨S16384x2048, .f32⟩
  | 2 => ⟨S16384, .i32⟩
  | 3 => ⟨S51x300, .f32⟩
  | 4 => ⟨S300x1024, .f32⟩
  | 5 => ⟨S1024, .f32⟩
  | 6 => ⟨S1024x2048, .f32⟩
  | 7 => ⟨S2048, .f32⟩
  | 8 => ⟨S2048x2048, .f32⟩
  | 9 => ⟨S2048, .f32⟩
  | 10 => ⟨S2048x2048, .f32⟩
  | 11 => ⟨S2048, .f32⟩
  | 12 => ⟨S4096x4096, .f32⟩
  | 13 => ⟨S4096, .f32⟩
  | 14 => ⟨S256x2048, .f32⟩
  | 15 => ⟨S_, .f32⟩
  | 16 => ⟨S256, .f32⟩
  | 17 => ⟨S256x1, .f32⟩
  | 18 => ⟨S256x1, .f32⟩
  | 19 => ⟨S_, .f32⟩
  | 20 => ⟨S256x1, .f32⟩
  | 21 => ⟨S256x1, .f32⟩
  | 22 => ⟨S256x2048, .f32⟩
  | 23 => ⟨S256x2048, .f32⟩
  | 24 => ⟨S16384x2048, .f32⟩
  | 25 => ⟨S_, .f32⟩
  | 26 => ⟨S16384, .f32⟩
  | 27 => ⟨S16384x1, .f32⟩
  | 28 => ⟨S16384x1, .f32⟩
  | 29 => ⟨S_, .f32⟩
  | 30 => ⟨S16384x1, .f32⟩
  | 31 => ⟨S16384x1, .f32⟩
  | 32 => ⟨S16384x2048, .f32⟩
  | 33 => ⟨S16384x2048, .f32⟩
  | 34 => ⟨S2048x16384, .f32⟩
  | 35 => ⟨S256x16384, .f32⟩
  | 36 => ⟨S256x8, .f32⟩
  | 37 => ⟨S256x8, .i32⟩
  | 38 => ⟨S_, .i32⟩
  | 39 => ⟨S256x8, .i32⟩
  | 40 => ⟨S256x8, .i1⟩
  | 41 => ⟨S_, .i32⟩
  | 42 => ⟨S256x8, .i32⟩
  | 43 => ⟨S256x8, .i32⟩
  | 44 => ⟨S256x8, .i32⟩
  | 45 => ⟨S256x8x1, .i32⟩
  | 46 => ⟨S1, .i32⟩
  | 47 => ⟨S_, .i32⟩
  | 48 => ⟨S256x8x1, .i32⟩
  | 49 => ⟨S256x8x1, .i1⟩
  | 50 => ⟨S1x1x1, .i32⟩
  | 51 => ⟨S256x8x1, .i32⟩
  | 52 => ⟨S256x8x1, .i1⟩
  | 53 => ⟨S256x8x1, .i1⟩
  | 54 => ⟨S_, .i1⟩
  | 55 => ⟨S256x8, .i1⟩
  | 56 => ⟨S256x8x2048, .f32⟩
  | 57 => ⟨S256x8x2048, .i1⟩
  | 58 => ⟨S_, .f32⟩
  | 59 => ⟨S256x8x2048, .f32⟩
  | 60 => ⟨S256x8x2048, .f32⟩
  | 61 => ⟨S_, .i32⟩
  | 62 => ⟨S256x8, .i32⟩
  | 63 => ⟨S256x8, .i1⟩
  | 64 => ⟨S_, .i32⟩
  | 65 => ⟨S256x8, .i32⟩
  | 66 => ⟨S256x8, .i32⟩
  | 67 => ⟨S256x8, .i32⟩
  | 68 => ⟨S256x8x1, .i32⟩
  | 69 => ⟨S1, .i32⟩
  | 70 => ⟨S_, .i32⟩
  | 71 => ⟨S256x8x1, .i32⟩
  | 72 => ⟨S256x8x1, .i1⟩
  | 73 => ⟨S1x1x1, .i32⟩
  | 74 => ⟨S256x8x1, .i32⟩
  | 75 => ⟨S256x8x1, .i1⟩
  | 76 => ⟨S256x8x1, .i1⟩
  | 77 => ⟨S_, .i1⟩
  | 78 => ⟨S256x8, .i1⟩
  | 79 => ⟨S256x8, .i32⟩
  | 80 => ⟨S_, .i32⟩
  | 81 => ⟨S256x8, .i32⟩
  | 82 => ⟨S256x8, .i32⟩
  | 83 => ⟨S_, .i32⟩
  | 84 => ⟨S256x8, .i32⟩
  | 85 => ⟨S256x8, .i1⟩
  | 86 => ⟨S_, .i32⟩
  | 87 => ⟨S256x8, .i32⟩
  | 88 => ⟨S256x8, .i32⟩
  | 89 => ⟨S256x8, .i32⟩
  | 90 => ⟨S256x8x1, .i32⟩
  | 91 => ⟨S1, .i32⟩
  | 92 => ⟨S_, .i32⟩
  | 93 => ⟨S256x8x1, .i32⟩
  | 94 => ⟨S256x8x1, .i1⟩
  | 95 => ⟨S1x1x1, .i32⟩
  | 96 => ⟨S256x8x1, .i32⟩
  | 97 => ⟨S256x8x1, .i1⟩
  | 98 => ⟨S256x8x1, .i1⟩
  | 99 => ⟨S_, .i1⟩
  | 100 => ⟨S256x8, .i1⟩
  | 101 => ⟨S256x8x300, .f32⟩
  | 102 => ⟨S256x8x300, .i1⟩
  | 103 => ⟨S_, .f32⟩
  | 104 => ⟨S256x8x300, .f32⟩
  | 105 => ⟨S256x8x300, .f32⟩
  | 106 => ⟨S256x8x1024, .f32⟩
  | 107 => ⟨S1x1x1024, .f32⟩
  | 108 => ⟨S256x8x1024, .f32⟩
  | 109 => ⟨S256x8x1024, .f32⟩
  | 110 => ⟨S_, .f32⟩
  | 111 => ⟨S256x8x1024, .f32⟩
  | 112 => ⟨S256x8x1024, .f32⟩
  | 113 => ⟨S256x8x2048, .f32⟩
  | 114 => ⟨S1x1x2048, .f32⟩
  | 115 => ⟨S256x8x2048, .f32⟩
  | 116 => ⟨S256x8x2048, .f32⟩
  | 117 => ⟨S256x2048, .f32⟩
  | 118 => ⟨S1x2048, .f32⟩
  | 119 => ⟨S256x2048, .f32⟩
  | 120 => ⟨S256x2048, .f32⟩
  | 121 => ⟨S256x8x2048, .f32⟩
  | 122 => ⟨S1x1x2048, .f32⟩
  | 123 => ⟨S256x8x2048, .f32⟩
  | 124 => ⟨S256x8x2048, .f32⟩
  | 125 => ⟨S256x8x4096, .f32⟩
  | 126 => ⟨S256x8x4096, .f32⟩
  | 127 => ⟨S1x1x4096, .f32⟩
  | _ => ⟨S256x2048, .f32⟩

abbrev hbmTy0_1 (i : Nat) : BufTy := match i % 128 with
  | 0 => ⟨S256x8x4096, .f32⟩
  | 1 => ⟨S256x8x4096, .f32⟩
  | 2 => ⟨S256x8, .f32⟩
  | 3 => ⟨S_, .f32⟩
  | 4 => ⟨S_, .f32⟩
  | 5 => ⟨S_, .f32⟩
  | 6 => ⟨S256x8, .f32⟩
  | 7 => ⟨S256x8, .f32⟩
  | 8 => ⟨S_, .f32⟩
  | 9 => ⟨S256, .f32⟩
  | 10 => ⟨S_, .f32⟩
  | 11 => ⟨S256, .f32⟩
  | 12 => ⟨S256, .f32⟩
  | 13 => ⟨S256x1, .f32⟩
  | 14 => ⟨S256x8, .f32⟩
  | 15 => ⟨S256x8, .f32⟩
  | 16 => ⟨S256x8, .f32⟩
  | 17 => ⟨S_, .f32⟩
  | 18 => ⟨S256, .f32⟩
  | 19 => ⟨S256x1, .f32⟩
  | 20 => ⟨S256x8, .f32⟩
  | 21 => ⟨S256x8, .f32⟩
  | 22 => ⟨S256x4096, .f32⟩
  | 23 => ⟨S256x2048, .f32⟩
  | 24 => ⟨S256x2048, .f32⟩
  | 25 => ⟨S_, .f32⟩
  | 26 => ⟨S256x2048, .f32⟩
  | 27 => ⟨S256x2048, .f32⟩
  | 28 => ⟨S256x2048, .f32⟩
  | 29 => ⟨S256x2048, .f32⟩
  | 30 => ⟨S256x2048, .f32⟩
  | _ => ⟨S256x2048, .f32⟩

abbrev hbmTy (i : Nat) : BufTy := match i / 128 with
  | 0 => hbmTy0_0 i
  | 1 => hbmTy0_1 i
  | _ => ⟨S256x2048, .f32⟩

abbrev bufTy : (tb : Table) → Fin (tcTables nBuf tb) → BufTy
  | .hbm, ⟨i, _⟩ => hbmTy i
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_call1_v0 : Ref sig .tc := ⟨.hbm, 24, rfl⟩
abbrev main_call1_cst : Ref sig .tc := ⟨.hbm, 25, rfl⟩
abbrev main_call1_v1 : Ref sig .tc := ⟨.hbm, 26, rfl⟩
abbrev main_call1_v2 : Ref sig .tc := ⟨.hbm, 27, rfl⟩
abbrev main_v5 : Ref sig .tc := ⟨.hbm, 28, rfl⟩
abbrev main_cst_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_values : Ref sig .tc := ⟨.hbm, 36, rfl⟩
abbrev main_indices : Ref sig .tc := ⟨.hbm, 37, rfl⟩
abbrev main_call2_c : Ref sig .tc := ⟨.hbm, 38, rfl⟩
abbrev main_call2_v0 : Ref sig .tc := ⟨.hbm, 39, rfl⟩
abbrev main_call2_v1 : Ref sig .tc := ⟨.hbm, 40, rfl⟩
abbrev main_call2_c_0 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_c_2 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_3 : Ref sig .tc := ⟨.hbm, 54, rfl⟩
abbrev main_call2_v12 : Ref sig .tc := ⟨.hbm, 55, rfl⟩
abbrev main_call2_v13 : Ref sig .tc := ⟨.hbm, 56, rfl⟩
abbrev main_call2_v14 : Ref sig .tc := ⟨.hbm, 57, rfl⟩
abbrev main_call2_cst : Ref sig .tc := ⟨.hbm, 58, rfl⟩
abbrev main_call2_v15 : Ref sig .tc := ⟨.hbm, 59, rfl⟩
abbrev main_v12 : Ref sig .tc := ⟨.hbm, 60, rfl⟩
abbrev main_call3_c : Ref sig .tc := ⟨.hbm, 61, rfl⟩
abbrev main_call3_v0 : Ref sig .tc := ⟨.hbm, 62, rfl⟩
abbrev main_call3_v1 : Ref sig .tc := ⟨.hbm, 63, rfl⟩
abbrev main_call3_c_0 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_c_1 : Ref sig .tc := ⟨.hbm, 69, rfl⟩
abbrev main_call3_c_2 : Ref sig .tc := ⟨.hbm, 70, rfl⟩
abbrev main_call3_v6 : Ref sig .tc := ⟨.hbm, 71, rfl⟩
abbrev main_call3_v7 : Ref sig .tc := ⟨.hbm, 72, rfl⟩
abbrev main_call3_v8 : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_3 : Ref sig .tc := ⟨.hbm, 77, rfl⟩
abbrev main_call3_v12 : Ref sig .tc := ⟨.hbm, 78, rfl⟩
abbrev main_call3_v13 : Ref sig .tc := ⟨.hbm, 79, rfl⟩
abbrev main_call3_c_4 : Ref sig .tc := ⟨.hbm, 80, rfl⟩
abbrev main_call3_v14 : Ref sig .tc := ⟨.hbm, 81, rfl⟩
abbrev main_v13 : Ref sig .tc := ⟨.hbm, 82, rfl⟩
abbrev main_call4_c : Ref sig .tc := ⟨.hbm, 83, rfl⟩
abbrev main_call4_v0 : Ref sig .tc := ⟨.hbm, 84, rfl⟩
abbrev main_call4_v1 : Ref sig .tc := ⟨.hbm, 85, rfl⟩
abbrev main_call4_c_0 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_call4_v5 : Ref sig .tc := ⟨.hbm, 90, rfl⟩
abbrev main_call4_c_1 : Ref sig .tc := ⟨.hbm, 91, rfl⟩
abbrev main_call4_c_2 : Ref sig .tc := ⟨.hbm, 92, rfl⟩
abbrev main_call4_v6 : Ref sig .tc := ⟨.hbm, 93, rfl⟩
abbrev main_call4_v7 : Ref sig .tc := ⟨.hbm, 94, rfl⟩
abbrev main_call4_v8 : Ref sig .tc := ⟨.hbm, 95, rfl⟩
abbrev main_call4_v9 : Ref sig .tc := ⟨.hbm, 96, rfl⟩
abbrev main_call4_v10 : Ref sig .tc := ⟨.hbm, 97, rfl⟩
abbrev main_call4_v11 : Ref sig .tc := ⟨.hbm, 98, rfl⟩
abbrev main_call4_c_3 : Ref sig .tc := ⟨.hbm, 99, rfl⟩
abbrev main_call4_v12 : Ref sig .tc := ⟨.hbm, 100, rfl⟩
abbrev main_call4_v13 : Ref sig .tc := ⟨.hbm, 101, rfl⟩
abbrev main_call4_v14 : Ref sig .tc := ⟨.hbm, 102, rfl⟩
abbrev main_call4_cst : Ref sig .tc := ⟨.hbm, 103, rfl⟩
abbrev main_call4_v15 : Ref sig .tc := ⟨.hbm, 104, rfl⟩
abbrev main_v14 : Ref sig .tc := ⟨.hbm, 105, rfl⟩
abbrev main_v15 : Ref sig .tc := ⟨.hbm, 106, rfl⟩
abbrev main_v16 : Ref sig .tc := ⟨.hbm, 107, rfl⟩
abbrev main_v17 : Ref sig .tc := ⟨.hbm, 108, rfl⟩
abbrev main_v18 : Ref sig .tc := ⟨.hbm, 109, rfl⟩
abbrev main_call5_cst : Ref sig .tc := ⟨.hbm, 110, rfl⟩
abbrev main_call5_v0 : Ref sig .tc := ⟨.hbm, 111, rfl⟩
abbrev main_v19 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩
abbrev main_v23 : Ref sig .tc := ⟨.hbm, 116, rfl⟩
abbrev main_v24 : Ref sig .tc := ⟨.hbm, 117, rfl⟩
abbrev main_v25 : Ref sig .tc := ⟨.hbm, 118, rfl⟩
abbrev main_v26 : Ref sig .tc := ⟨.hbm, 119, rfl⟩
abbrev main_v27 : Ref sig .tc := ⟨.hbm, 120, rfl⟩
abbrev main_v28 : Ref sig .tc := ⟨.hbm, 121, rfl⟩
abbrev main_v29 : Ref sig .tc := ⟨.hbm, 122, rfl⟩
abbrev main_v30 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_1 : Ref sig .tc := ⟨.hbm, 131, rfl⟩
abbrev main_v38 : Ref sig .tc := ⟨.hbm, 132, rfl⟩
abbrev main_v39 : Ref sig .tc := ⟨.hbm, 133, rfl⟩
abbrev main_v40 : Ref sig .tc := ⟨.hbm, 134, rfl⟩
abbrev main_v41 : Ref sig .tc := ⟨.hbm, 135, rfl⟩
abbrev main_cst_2 : Ref sig .tc := ⟨.hbm, 136, rfl⟩
abbrev main_v42 : Ref sig .tc := ⟨.hbm, 137, rfl⟩
abbrev main_cst_3 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_v48 : Ref sig .tc := ⟨.hbm, 144, rfl⟩
abbrev main_cst_4 : Ref sig .tc := ⟨.hbm, 145, rfl⟩
abbrev main_v49 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_call6_cst : Ref sig .tc := ⟨.hbm, 153, rfl⟩
abbrev main_call6_v0 : Ref sig .tc := ⟨.hbm, 154, rfl⟩
abbrev main_v56 : Ref sig .tc := ⟨.hbm, 155, rfl⟩
abbrev main_v57 : Ref sig .tc := ⟨.hbm, 156, rfl⟩
abbrev main_v58 : Ref sig .tc := ⟨.hbm, 157, rfl⟩
abbrev main_v59 : Ref sig .tc := ⟨.hbm, 158, rfl⟩

abbrev nD : Nat := 1
abbrev τ : Topo := Topo.v7x

variable {F : FTy → Type} [FloatOps F]
-- ==== Proof.Softmax.lean ====
/-
  The mathematics of the fused attention, on sums of extended reals that are real numbers. Nothing here mentions a
  program.

  * `IsReal`: an extended real is a real number; sums, products, differences, maxima of such are such.
  * `soft`: softmax of a finite family as both programs spell it (subtract the maximum, exponentiate, divide by the sum).
    `soft_shift`: adding one real number to every score changes nothing. `soft_weights`: at real scores the values are
    positive real numbers whose sum is 1.
  * `scores_shift`: (q · (x W + b)) / s is (x · (q Wᵀ)) / s plus a number that does not depend on x.
  * `Steady`: a family is of real numbers, or +∞ throughout, or −∞ throughout. `mix_add`, `mix_mul`, `mix_const`, `mix_sum`:
    mixing by positive weights whose sum is 1 is linear on such families.
  * `mix_eq`: such weights go through the value projection and its bias.
-/
module

public import Idealize.ShloMosaic.PureOps.Ideal.Laws
public import Mathlib.Data.EReal.Operations
public import Mathlib.Algebra.BigOperators.Ring.Finset

@[expose] public section

noncomputable section

namespace Cert.Fusion

open Idealize.ShloMosaic
open scoped BigOperators

/-- The extended real `x` is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.max {x y : EReal} : IsReal x → IsReal y → IsReal (max x y)
  | ⟨a, ha⟩, ⟨b, hb⟩ => by
    rcases max_choice x y with h | h <;> rw [h]
    · exact ⟨a, ha⟩
    · exact ⟨b, hb⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} [Fintype ι] {f : ι → EReal} (h : ∀ i, IsReal (f i)) : IsReal (∑ i, f i) := by
  choose g hg using h
  exact ⟨∑ i, g i, by rw [coe_sum]; exact Finset.sum_congr rfl fun i _ => hg i⟩

/-- A finite absolute value, as the precondition compares it, is a real number's. -/
theorem isReal_of_abs_lt_top {x : EReal} (h : max x (-x) < ⊤) : IsReal x := by
  induction x using EReal.rec with
  | bot => simp at h
  | top => simp at h
  | coe r => exact ⟨r, rfl⟩

/-! ## Softmax -/

section Soft

variable {κ : Type} [Fintype κ]

/-- The maximum both programs subtract: a fold from −∞, once more compared with −∞. -/
def peak (s : κ → EReal) : EReal := max ⊥ (Finset.univ.fold max ⊥ s)

/-- Softmax as both programs spell it. -/
def soft (s : κ → EReal) (k : κ) : EReal :=
  Ideal.div (Ideal.exp (s k - peak s)) (∑ k', Ideal.exp (s k' - peak s))

/-- The maximum of a nonempty family of real numbers is one of them. -/
theorem peak_coe [Nonempty κ] (σ : κ → ℝ) :
    ∃ k₀, peak (fun k => (σ k : EReal)) = (σ k₀ : EReal) ∧ ∀ k, σ k ≤ σ k₀ := by
  classical
  obtain ⟨k₀, hk₀⟩ := Finite.exists_max σ
  refine ⟨k₀, le_antisymm ?_ ?_, hk₀⟩
  · refine max_le bot_le (Finset.fold_max_le _ |>.mpr ⟨bot_le, fun k _ => ?_⟩)
    exact EReal.coe_le_coe_iff.mpr (hk₀ k)
  · exact le_max_of_le_right (Finset.le_fold_max _ |>.mpr (.inr ⟨k₀, Finset.mem_univ _, le_rfl⟩))

/-- Adding one real number to every score adds it to the maximum. -/
theorem peak_shift [Nonempty κ] (σ : κ → ℝ) (c : ℝ) :
    peak (fun k => ((σ k + c : ℝ) : EReal)) = peak (fun k => (σ k : EReal)) + (c : EReal) := by
  obtain ⟨k₀, h₀, m₀⟩ := peak_coe σ
  obtain ⟨k₁, h₁, m₁⟩ := peak_coe fun k => σ k + c
  rw [h₁, h₀, ← EReal.coe_add]
  have e : σ k₁ = σ k₀ := le_antisymm (m₀ k₁) (by have := m₁ k₀; linarith)
  rw [e]

/-- Softmax does not see a real number added to every score. -/
theorem soft_shift [Nonempty κ] (σ : κ → ℝ) (c : ℝ) :
    soft (fun k => ((σ k + c : ℝ) : EReal)) = soft (fun k => (σ k : EReal)) := by
  obtain ⟨k₀, h₀, -⟩ := peak_coe σ
  have e : ∀ k, ((σ k + c : ℝ) : EReal) - peak (fun k => ((σ k + c : ℝ) : EReal)) = (σ k : EReal) - peak (fun k => (σ k : EReal)) := by
    intro k
    rw [peak_shift, h₀, ← EReal.coe_add, ← EReal.coe_sub, ← EReal.coe_sub, add_sub_add_right_eq_sub]
  funext k
  unfold soft
  simp only [e]

/-- At real scores the softmax values are positive real numbers whose sum is 1. -/
theorem soft_weights [Nonempty κ] (σ : κ → ℝ) :
    ∃ a : κ → ℝ, (∀ k, soft (fun k => (σ k : EReal)) k = (a k : EReal)) ∧ (∀ k, 0 < a k) ∧ ∑ k, a k = 1 := by
  obtain ⟨k₀, h₀, -⟩ := peak_coe σ
  have pos : 0 < ∑ k, Real.exp (σ k - σ k₀) := Finset.sum_pos (fun k _ => Real.exp_pos _) Finset.univ_nonempty
  refine ⟨fun k => Real.exp (σ k - σ k₀) * (1 / ∑ k', Real.exp (σ k' - σ k₀)), fun k => ?_,
    fun k => mul_pos (Real.exp_pos _) (one_div_pos.mpr pos), ?_⟩
  · unfold soft
    have e : ∀ k, Ideal.exp ((σ k : EReal) - peak (fun k => (σ k : EReal))) = (Real.exp (σ k - σ k₀) : EReal) := by
      intro k
      rw [h₀, ← EReal.coe_sub]; rfl
    simp only [e]
    rw [← coe_sum, Ideal.div_coe pos.ne', ← EReal.coe_mul]
  · rw [← Finset.sum_mul, mul_one_div_cancel pos.ne']

end Soft

/-! ## The scores and the value projection -/

/-- The reference's score is the kernel's score and a number that depends on the query alone. -/
theorem scores_shift {δ ε κ : Type} [Fintype δ] [Fintype ε] (x : κ → δ → ℝ) (q : ε → ℝ) (W : δ → ε → ℝ) (b : ε → ℝ) (k : κ) :
    ∑ e, q e * (∑ d, x k d * W d e + b e) = (∑ d, x k d * ∑ e, q e * W d e) + ∑ e, q e * b e := by
  simp only [mul_add, Finset.sum_add_distrib, Finset.mul_sum]
  rw [Finset.sum_comm]
  congr 1
  exact Finset.sum_congr rfl fun d _ => Finset.sum_congr rfl fun e _ => by ring

/-- The family `f` is of real numbers, or +∞ throughout, or −∞ throughout. -/
def Steady {κ : Type} (f : κ → EReal) : Prop := (∃ r : κ → ℝ, f = fun k => (r k : EReal)) ∨ f = (fun _ => ⊤) ∨ f = fun _ => ⊥

section Steady

variable {κ : Type} {f g : κ → EReal}

/-- A family of real numbers is steady. -/
theorem Steady.of_real (h : ∀ k, IsReal (f k)) : Steady f := by
  choose r hr using h
  exact .inl ⟨r, funext hr⟩

/-- A constant family is steady. -/
theorem Steady.const (x : EReal) : Steady fun _ : κ => x := by
  induction x using EReal.rec with
  | bot => exact .inr (.inr rfl)
  | top => exact .inr (.inl rfl)
  | coe r => exact .inl ⟨fun _ => r, rfl⟩

/-- Sums of steady families are steady. -/
theorem Steady.add (hf : Steady f) (hg : Steady g) : Steady fun k => f k + g k := by
  obtain ⟨r, rfl⟩ | rfl | rfl := hf <;> obtain ⟨t, rfl⟩ | rfl | rfl := hg
  · exact .of_real fun k => (isReal_coe _).add (isReal_coe _)
  all_goals simp only [EReal.coe_add_top, EReal.top_add_coe, EReal.add_bot, EReal.bot_add, EReal.top_add_top]
  all_goals exact .const _

/-- An steady family times a real number is steady. -/
theorem Steady.mul (hf : Steady f) {c : EReal} (hc : IsReal c) : Steady fun k => f k * c := by
  obtain ⟨r, rfl⟩ | rfl | rfl := hf
  · exact .of_real fun k => (isReal_coe _).mul hc
  all_goals exact .const _

/-- An steady family with its negative entries cut to zero is steady. -/
theorem Steady.cut (hf : Steady f) : Steady fun k => max (f k) 0 := by
  obtain ⟨r, rfl⟩ | rfl | rfl := hf
  · exact .of_real fun k => (isReal_coe _).max isReal_zero
  all_goals exact .const _

/-- Finite sums of steady families are steady. -/
theorem Steady.sum {ι : Type} (s : Finset ι) {F : ι → κ → EReal} (h : ∀ i, Steady (F i)) : Steady fun k => ∑ i ∈ s, F i k := by
  classical
  induction s using Finset.induction_on with
  | empty => exact .const _
  | insert i s hi ih =>
    simp only [Finset.sum_insert hi]
    exact (h i).add ih

variable [Fintype κ] [Nonempty κ] {a : κ → ℝ} (hpos : ∀ k, 0 < a k) (ha : ∑ k, a k = 1)

/-- Mixing a family of real numbers. -/
theorem mix_coe (r : κ → ℝ) : ∑ k, (a k : EReal) * (r k : EReal) = ((∑ k, a k * r k : ℝ) : EReal) := by
  simp only [coe_sum, EReal.coe_mul]

include hpos

/-- Mixing +∞ gives +∞. -/
theorem mix_top : ∑ k, (a k : EReal) * ⊤ = ⊤ := by
  simp only [EReal.coe_mul_top_of_pos (hpos _)]
  refine top_unique ((Finset.single_le_sum (f := fun _ : κ => (⊤ : EReal)) (fun _ _ => le_top)
    (Finset.mem_univ (Classical.arbitrary κ))))

/-- Mixing −∞ gives −∞. -/
theorem mix_bot : ∑ k, (a k : EReal) * ⊥ = ⊥ := by
  classical
  simp only [EReal.coe_mul_bot_of_pos (hpos _)]
  rw [← Finset.add_sum_erase _ _ (Finset.mem_univ (Classical.arbitrary κ)), EReal.bot_add]

/-- Mixing is additive on steady families. -/
theorem mix_add (hf : Steady f) (hg : Steady g) :
    ∑ k, (a k : EReal) * (f k + g k) = ∑ k, (a k : EReal) * f k + ∑ k, (a k : EReal) * g k := by
  obtain ⟨r, rfl⟩ | rfl | rfl := hf <;> obtain ⟨t, rfl⟩ | rfl | rfl := hg
  · simp only [← EReal.coe_add, mix_coe, mul_add, Finset.sum_add_distrib]
  all_goals simp only [mix_coe, mix_top hpos, mix_bot hpos, EReal.coe_add_top, EReal.top_add_coe, EReal.add_bot,
    EReal.bot_add, EReal.top_add_top]

/-- Mixing commutes with finite sums of steady families. -/
theorem mix_sum {ι : Type} (s : Finset ι) {F : ι → κ → EReal} (h : ∀ i, Steady (F i)) :
    ∑ k, (a k : EReal) * ∑ i ∈ s, F i k = ∑ i ∈ s, ∑ k, (a k : EReal) * F i k := by
  classical
  induction s using Finset.induction_on with
  | empty => simp
  | insert i s hi ih =>
    simp only [Finset.sum_insert hi]
    rw [mix_add hpos (h i) (Steady.sum s h), ih]

include ha

/-- Mixing a constant gives the constant. -/
theorem mix_const (x : EReal) : ∑ k, (a k : EReal) * x = x := by
  induction x using EReal.rec with
  | bot => exact mix_bot hpos
  | top => exact mix_top hpos
  | coe r => rw [mix_coe fun _ => r, ← Finset.sum_mul, ha, one_mul]

/-- Mixing commutes with a real factor on steady families. -/
theorem mix_mul (hf : Steady f) {c : EReal} (hc : IsReal c) :
    ∑ k, (a k : EReal) * (f k * c) = (∑ k, (a k : EReal) * f k) * c := by
  obtain ⟨r, rfl⟩ | rfl | rfl := hf
  · obtain ⟨c, rfl⟩ := hc
    simp only [← EReal.coe_mul, ← coe_sum, Finset.sum_mul, mul_assoc]
  · rw [mix_const hpos ha, mix_const hpos ha]
  · rw [mix_const hpos ha, mix_const hpos ha]

/-- Positive weights whose sum is 1 go through the projection of two stacked inputs and its bias. -/
theorem mix_eq {δ : Type} [Fintype δ] {x y : κ → δ → EReal} {U V : δ → EReal} (β : EReal)
    (hx : ∀ d, Steady fun k => x k d) (hy : ∀ d, Steady fun k => y k d) (hU : ∀ d, IsReal (U d)) (hV : ∀ d, IsReal (V d)) :
    ∑ k, (a k : EReal) * ((∑ d, x k d * U d + ∑ d, y k d * V d) + β)
      = (∑ d, (∑ k, (a k : EReal) * x k d) * U d + ∑ d, (∑ k, (a k : EReal) * y k d) * V d) + β := by
  have eU : ∀ d, Steady fun k => x k d * U d := fun d => (hx d).mul (hU d)
  have eV : ∀ d, Steady fun k => y k d * V d := fun d => (hy d).mul (hV d)
  rw [mix_add hpos ((Steady.sum _ eU).add (Steady.sum _ eV)) (.const β), mix_add hpos (Steady.sum _ eU) (Steady.sum _ eV),
    mix_sum hpos _ eU, mix_sum hpos _ eV, mix_const hpos ha]
  simp only [mix_mul hpos ha (hx _) (hU _), mix_mul hpos ha (hy _) (hV _)]

end Steady

/-- THE FUSED ATTENTION ON EXTENDED REALS. With real keys `x`, query `q`, projections `W`, `U`, `V`, key bias `b` and nonzero
    real divisor `s`, with label embeddings `y` steady in each coordinate, and with any value bias `β`: the reference's order — scores of projected keys, values projected
    before they are mixed — gives what the kernel's order gives — scores of keys against the projected query, keys and
    embeddings mixed before they are projected. -/
theorem fused_eq {δ ε κ : Type} [Fintype δ] [Fintype ε] [Fintype κ] [Nonempty κ] {x y : κ → δ → EReal} {q : ε → EReal}
    {W : δ → ε → EReal} {b : ε → EReal} {U V : δ → EReal} {β s : EReal}
    (hx : ∀ k d, IsReal (x k d)) (hy : ∀ d, Steady fun k => y k d) (hq : ∀ e, IsReal (q e)) (hW : ∀ d e, IsReal (W d e))
    (hb : ∀ e, IsReal (b e)) (hU : ∀ d, IsReal (U d)) (hV : ∀ d, IsReal (V d)) (hs : IsReal s) (hs0 : s ≠ 0) :
    ∑ k, soft (fun k => Ideal.div (∑ e, q e * (∑ d, x k d * W d e + b e)) s) k
        * ((∑ d, x k d * U d + ∑ d, y k d * V d) + β)
      = (∑ d, (∑ k, soft (fun k => Ideal.div (∑ d, x k d * ∑ e, q e * W d e) s) k * x k d) * U d
          + ∑ d, (∑ k, soft (fun k => Ideal.div (∑ d, x k d * ∑ e, q e * W d e) s) k * y k d) * V d) + β := by
  have ex : ∀ d, Steady fun k => x k d := fun d => .of_real fun k => hx k d
  choose x' hx using hx
  choose q' hq using hq
  choose W' hW using hW
  choose b' hb using hb
  obtain ⟨s', rfl⟩ := hs
  have hs' : s' ≠ 0 := by rintro rfl; exact hs0 rfl
  have eK : (fun k => Ideal.div (∑ d, x k d * ∑ e, q e * W d e) (s' : EReal))
      = fun k => (((∑ d, x' k d * ∑ e, q' e * W' d e) * (1 / s') : ℝ) : EReal) := by
    funext k
    rw [Ideal.div_coe hs', EReal.coe_mul]
    congr 1
    simp only [hx, hq, hW, coe_sum, EReal.coe_mul]
  have eR : (fun k => Ideal.div (∑ e, q e * (∑ d, x k d * W d e + b e)) (s' : EReal))
      = fun k => (((∑ d, x' k d * ∑ e, q' e * W' d e) * (1 / s') + (∑ e, q' e * b' e) * (1 / s') : ℝ) : EReal) := by
    funext k
    rw [Ideal.div_coe hs', ← add_mul, ← scores_shift, EReal.coe_mul]
    congr 1
    simp only [hx, hq, hW, hb, coe_sum, EReal.coe_mul, EReal.coe_add]
  rw [eR, eK, soft_shift]
  obtain ⟨a, ha, hpos, ha1⟩ := soft_weights fun k => (∑ d, x' k d * ∑ e, q' e * W' d e) * (1 / s')
  simp only [ha]
  exact mix_eq hpos ha1 β ex hy hU hV

end Cert.Fusion

end
-- ==== Proof.Spec.lean ====
/-
  The functions both programs compute, written entry by entry over the extended reals: cosine similarities between
  query rows and stored rows, an affine map of a row, the two-layer label table, and the final fusion.
-/
module

public import proofs.«01_k».proof.Defs
public import Idealize.ShloMosaic.Lib.Pipeline.ValueKit
public import Idealize.ShloMosaic.Lib.Pointwise

@[expose] public section

noncomputable section

namespace Cert.Fusion

open Idealize.ShloMosaic

/-- The small constant added to a row's length before dividing by it. -/
abbrev tiny : EReal := Ideal.ofBits .f32 0x2B8CBCCC#32

/-- Entry `(r, d)` of a matrix of 2048-long rows, the row divided by its length plus the small constant. -/
def unitRow {N : Nat} (x : FVec Ideal ⟨2, ![N, 2048]⟩ .f32) (r : Fin N) (d : Fin 2048) : EReal :=
  Ideal.div (x (ix2 r d)) (Ideal.sqrt (∑ e : Fin 2048, x (ix2 r e) * x (ix2 r e)) + tiny)

/-- The similarity of query row `q` and stored row `n`. -/
def simAt (x : FVec Ideal ⟨2, ![256, 2048]⟩ .f32) (y : FVec Ideal ⟨2, ![16384, 2048]⟩ .f32) (q : Fin 256)
    (n : Fin 16384) : EReal :=
  ∑ d : Fin 2048, unitRow x q d * unitRow y n d

/-- A linear map of the rows of `x` plus a bias: entry `(q, n)` is `∑ d, x q d * w d n + b n`. -/
def affine {M K N : Nat} (x : FVec Ideal ⟨2, ![M, K]⟩ .f32) (w : FVec Ideal ⟨2, ![K, N]⟩ .f32)
    (b : FVec Ideal ⟨1, ![N]⟩ .f32) (q : Fin M) (n : Fin N) : EReal :=
  ∑ d : Fin K, x (ix2 q d) * w (ix2 d n) + b (ix1 n)

/-- The two-layer map of a row `e` of label features: an affine map, the negative entries cut to zero, and a second
    affine map; `b₁` and `b₂` are the biases. -/
def mlp (e : Fin 300 → EReal) (w₁ : FVec Ideal ⟨2, ![300, 1024]⟩ .f32) (b₁ : Fin 1024 → EReal)
    (w₂ : FVec Ideal ⟨2, ![1024, 2048]⟩ .f32) (b₂ : Fin 2048 → EReal) (n : Fin 2048) : EReal :=
  ∑ h : Fin 1024, max (∑ d : Fin 300, e d * w₁ (ix2 d h) + b₁ h) 0 * w₂ (ix2 h n) + b₂ n

/-- The fusion of a mixed value `f` with a query entry `r`: `max (f + r) 0 - (f - r) ^ 2`. -/
def fuse (f r : EReal) : EReal := max (f + r) 0 - (f - r) * (f - r)

end Cert.Fusion

end

end
-- ==== Proof.Region0.lean ====
/-
  What the similarity stage leaves in its first result array: row `b * 256 + q`, lane `l` holds the similarity of
  query `q` and stored row `b * 128 + l`.
-/
module

public import proofs.«01_k».proof.Proof.Spec
public import proofs.«01_k».proof.Proof.Gen.KernelIdeal.Frame

@[expose] public section

set_option maxRecDepth 16384

noncomputable section

namespace Cert.KernelIdeal.Reads

open Idealize.ShloMosaic Idealize.ShloMosaic.TcCoe Idealize.SL.Sem
open Idealize.ShloMosaic.Pipeline (Dat)
open Cert.KernelIdeal Cert.KernelIdeal.Gen Cert.Fusion

variable (V : (c : Dev nD) → (b : Ref sig .tc) → Buf (Elt Ideal) ((c : Thread nD τ).loc b))

/-- Which block each window of the similarity stage is at. -/
theorem idx0 : ∀ t : Fin cfg0.N, win0_0.index t = ![0, 0] ∧ win0_1.index t = ![t.val, 0] ∧
    win0_2.index t = ![t.val, 0] :=
  (by decide +kernel : ∀ t : Fin grid0.N, _)

/-- The similarities as the stage lays them out. -/
def simRows (x : FVec Ideal S256x2048 .f32) (y : FVec Ideal S16384x2048 .f32) : FVec Ideal S32768x128 .f32 := fun j =>
  simAt x y ⟨(j 0).val % 256, Nat.mod_lt _ (by decide)⟩
    ⟨(j 0).val / 256 * 128 + (j 1).val, by
      have h0 : (j 0).val < 32768 := (j 0).isLt
      have h1 : (j 1).val < 128 := (j 1).isLt
      omega⟩

set_option maxHeartbeats 1000000 in
/-- The similarity array after the stage. -/
theorem final0 (c : Dev nD) : (dat0 V c).arrAt 2 cfg0.N = simRows (V c main_arg0) (V c main_arg1) := by
  refine (dat0 V c).arrAt_eq_of_covers 2 _ (by decide +kernel) fun t _ y => ?_
  blk_simp
  rw [after0_2]
  frame_out
  pointwise [k0_pay2, k0_pay1, simRows, simAt, unitRow, tiny]
  blk_point [iblk0, idx0 t]

end Cert.KernelIdeal.Reads

end

end
-- ==== Proof.Regions.lean ====
/-
  What each later pipelined stage leaves in its result array, as a function of the arrays it reads: the query
  projection, its product with the key weights, the label table and the final fusion.
-/
module

public import proofs.«01_k».proof.Proof.Spec
public import proofs.«01_k».proof.Proof.Gen.KernelIdeal.Frame

@[expose] public section

set_option maxRecDepth 16384

noncomputable section

namespace Cert.KernelIdeal.Reads

open Idealize.ShloMosaic Idealize.ShloMosaic.TcCoe Idealize.SL.Sem
open Idealize.ShloMosaic.Pipeline (Dat)
open Cert.KernelIdeal Cert.KernelIdeal.Gen Cert.Fusion

variable (V : (c : Dev nD) → (b : Ref sig .tc) → Buf (Elt Ideal) ((c : Thread nD τ).loc b))

/-- Which block each window of the query projection is at. -/
theorem idx2 : ∀ t : Fin cfg2.N, win2_0.index t = ![0, 0] ∧ win2_1.index t = ![0, t.val] ∧
    win2_2.index t = ![t.val] ∧ win2_3.index t = ![0, t.val] :=
  (by decide +kernel : ∀ t : Fin grid2.N, _)

/-- The projected queries. -/
def projRows (x : FVec Ideal S256x2048 .f32) (w : FVec Ideal S2048x2048 .f32) (b : FVec Ideal S2048 .f32) :
    FVec Ideal S256x2048 .f32 := fun j => affine x w b (j 0) (j 1)

set_option maxHeartbeats 1000000 in
/-- The query projection's result array. -/
theorem final2 (c : Dev nD) : (dat2 V c).arrAt 3 cfg2.N = projRows (V c main_arg0) (V c main_arg8) (V c main_arg9) := by
  refine (dat2 V c).arrAt_eq_of_covers 3 _ (by decide +kernel) fun t _ y => ?_
  blk_simp
  rw [after2_3]
  frame_out
  pointwise [k2_pay1, projRows, affine]
  blk_point [iblk2, idx2 t]

/-- Which block each window of the key-weight product is at. -/
theorem idx3 : ∀ t : Fin cfg3.N, win3_0.index t = ![0, 0] ∧ win3_1.index t = ![t.val, 0] ∧
    win3_2.index t = ![t.val] ∧ win3_3.index t = ![0, t.val] :=
  (by decide +kernel : ∀ t : Fin grid3.N, _)

/-- Rows of `x` times rows of `w`, plus a bias. -/
def rowsByRows (x : FVec Ideal S256x2048 .f32) (w : FVec Ideal S2048x2048 .f32) (b : FVec Ideal S2048 .f32) :
    FVec Ideal S256x2048 .f32 := fun j => ∑ d : Fin 2048, x (ix2 (j 0) d) * w (ix2 (j 1) d) + b (ix1 (j 1))

set_option maxHeartbeats 1000000 in
/-- The key-weight product's result array. -/
theorem final3 (c : Dev nD) : (dat3 V c).arrAt 3 cfg3.N = rowsByRows (V c main_v7) (V c main_arg10) (V c main_v8) := by
  refine (dat3 V c).arrAt_eq_of_covers 3 _ (by decide +kernel) fun t _ y => ?_
  blk_simp
  rw [after3_3]
  frame_out
  pointwise [k3_pay1, rowsByRows]
  blk_point [iblk3, idx3 t]

/-- The table of mapped label rows. -/
def tableRows (e : FVec Ideal S51x300 .f32) (w₁ : FVec Ideal S300x1024 .f32) (b₁ : FVec Ideal S1x1024 .f32)
    (w₂ : FVec Ideal S1024x2048 .f32) (b₂ : FVec Ideal S1x2048 .f32) : FVec Ideal S51x2048 .f32 := fun j =>
  mlp (fun d => e (ix2 (j 0) d)) w₁ (fun h => b₁ (ix2 0 h)) w₂ (fun n => b₂ (ix2 0 n)) (j 1)

/-- Every window of the label table's stage is at block zero. -/
theorem idx4 : win4_0.index t4_0 = ![0, 0] ∧ win4_1.index t4_0 = ![0, 0] ∧ win4_2.index t4_0 = ![0, 0] ∧
    win4_3.index t4_0 = ![0, 0] ∧ win4_4.index t4_0 = ![0, 0] := by decide +kernel

set_option maxHeartbeats 1000000 in
/-- The label table's result array. -/
theorem final4 (c : Dev nD) : (dat4 V c).arrAt 5 cfg4.N =
    tableRows (V c main_arg3) (V c main_arg4) (V c main_v10) (V c main_arg6) (V c main_v11) := by
  refine (dat4 V c).arrAt_eq_of_after_last 5 t4_0 (by decide +kernel) _ fun j => ?_
  blk_simp
  rw [after4_5]
  frame_out
  pointwise [k4_pay1, tableRows, mlp]
  blk_point [iblk4, idx4]

/-- Which block each window of the fusion is at. -/
theorem idx5 : ∀ t : Fin cfg5.N, win5_0.index t = ![0, 0] ∧ win5_1.index t = ![0, 0] ∧
    win5_2.index t = ![0, t.val] ∧ win5_3.index t = ![0, t.val] ∧ win5_4.index t = ![t.val] ∧
    win5_5.index t = ![0, t.val] ∧ win5_6.index t = ![0, t.val] :=
  (by decide +kernel : ∀ t : Fin grid5.N, _)

/-- The fused rows, from the mixed keys, the mixed label rows, the two halves of the value weights, their bias and
    the queries. -/
def fusedRows (k p : FVec Ideal S256x2048 .f32) (w₁ w₂ : FVec Ideal S2048x2048 .f32) (b : FVec Ideal S2048 .f32)
    (r : FVec Ideal S256x2048 .f32) : FVec Ideal S256x2048 .f32 := fun j =>
  fuse (∑ d : Fin 2048, k (ix2 (j 0) d) * w₁ (ix2 d (j 1)) + ∑ d : Fin 2048, p (ix2 (j 0) d) * w₂ (ix2 d (j 1))
    + b (ix1 (j 1))) (r (ix2 (j 0) (j 1)))

set_option maxHeartbeats 1000000 in
/-- The fusion's result array. -/
theorem final5 (c : Dev nD) : (dat5 V c).arrAt 6 cfg5.N = fusedRows (V c main_v30) (V c main_v31) (V c main_v32)
    (V c main_v33) (V c main_v34) (V c main_arg0) := by
  refine (dat5 V c).arrAt_eq_of_covers 6 _ (by decide +kernel) fun t _ y => ?_
  blk_simp
  rw [after5_6]
  frame_out
  pointwise [k5_pay1, fusedRows, fuse]
  blk_point [iblk5, idx5 t]

end Cert.KernelIdeal.Reads

end

end
-- ==== Proof.Take.lean ====
/-
  Reading rows (or entries) of an array at a [256, 8] table of integer positions, as both programs print it: a position
  below zero is moved up by the array's length, and an entry whose position is out of range is replaced by a filler.
  At a position that is in range the entry read is the array's own.
-/
module

public import proofs.«01_k».proof.Proof.Spec
public import Idealize.ShloMosaic.Lib.Tactic.WordOmega

@[expose] public section

set_option maxRecDepth 16384

noncomputable section

namespace Cert.Fusion

open Idealize.ShloMosaic Idealize.ShloMosaic.WordCmp

/-- The dimension numbers of reading whole rows of an `N` by `C` array at a [256, 8, 1] table of row numbers. -/
abbrev rowDims (N C : Nat)
    (wf : GatherDims.WF ⟨2, ![N, C]⟩ ⟨3, ![256, 8, 1]⟩ ⟨3, ![256, 8, C]⟩ [2] [0] [] [0] [] 2 ![1, C]) :
    GatherDims ⟨2, ![N, C]⟩ ⟨3, ![256, 8, 1]⟩ ⟨3, ![256, 8, C]⟩ where
  offsetDims := [2]
  collapsedSliceDims := [0]
  operandBatchingDims := []
  startIndicesBatchingDims := []
  startIndexMap := [0]
  indexVectorDim := 2
  sliceSizes := ![1, C]
  wf := wf

/-- Entry `(q, k, d)` of the rows read is entry `d` of the row whose number the table holds at `(q, k)`, cut to the
    last row. -/
theorem gather_row {α : Type} {N C : Nat} (hN : 0 < N)
    (wf : GatherDims.WF ⟨2, ![N, C]⟩ ⟨3, ![256, 8, 1]⟩ ⟨3, ![256, 8, C]⟩ [2] [0] [] [0] [] 2 ![1, C])
    (x : (⟨2, ![N, C]⟩ : Shape).Idx → α) (w : IVec ⟨3, ![256, 8, 1]⟩ 32) (q : Fin 256) (k : Fin 8) (d : Fin C) :
    Host.gather (rowDims N C wf) x w (ix3 q k d) =
      x (ix2 ⟨min (w (ix3 q k 0)).toInt.toNat (N - 1), by omega⟩ d) := by
  have hs : ∀ h : List.idxOf (0 : Fin 2) (rowDims N C wf).startIndexMap < (rowDims N C wf).startIndexMap.length,
      (rowDims N C wf).siIdx (ix3 q k d) ⟨List.idxOf (0 : Fin 2) (rowDims N C wf).startIndexMap, h⟩ = ix3 q k 0 := by
    intro h
    funext b
    refine Fin.ext ?_
    match b with
    | ⟨0, _⟩ => rfl
    | ⟨1, _⟩ => rfl
    | ⟨2, _⟩ => rfl
  unfold Host.gather
  congr 1
  funext a
  refine Fin.ext ?_
  change (rowDims N C wf).start (ix3 q k d) w a + (rowDims N C wf).batchCoord (ix3 q k d) a
    + (rowDims N C wf).offCoord (ix3 q k d) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 2) ∈ (rowDims N C wf).startIndexMap from List.mem_singleton.mpr rfl)]
    erw [hs]
    rfl
  | ⟨1, _⟩ =>
    unfold GatherDims.start
    rw [dif_neg (show (⟨1, by decide⟩ : Fin 2) ∉ (rowDims N C wf).startIndexMap from fun h => Nat.one_ne_zero (congrArg Fin.val (List.mem_singleton.mp h)))]
    simp only [Nat.zero_add]
    rfl

/-- The position table with its negative entries moved up by `n`. -/
def wrapped (n : BitVec 32) (i : IVec ⟨2, ![256, 8]⟩ 32)
    (h₀ : (⟨0, ![]⟩ : Shape).BroadcastsInDim ⟨2, ![256, 8]⟩ ![])
    (h₁ : (⟨2, ![256, 8]⟩ : Shape).BroadcastsInDim ⟨3, ![256, 8, 1]⟩ ![0, 1]) : IVec ⟨3, ![256, 8, 1]⟩ 32 :=
  broadcastInDim ⟨3, ![256, 8, 1]⟩ ![0, 1] h₁ (select
    (cmpi .slt i (broadcastInDim ⟨2, ![256, 8]⟩ ![] h₀ (constantI ⟨0, ![]⟩ 32 0#32)))
    (addi i (broadcastInDim ⟨2, ![256, 8]⟩ ![] h₀ (constantI ⟨0, ![]⟩ 32 n))) i)

/-- A position that is not negative is kept. -/
theorem wrapped_apply {n : BitVec 32} {i : IVec ⟨2, ![256, 8]⟩ 32} {h₀ h₁} {q : Fin 256} {k : Fin 8}
    (h : (i (ix2 q k)).toNat < 2147483648) : wrapped n i h₀ h₁ (ix3 q k 0) = i (ix2 q k) := by
  pointwise [wrapped]
  apply BitVec.eq_of_toNat_eq
  word_omega

/-- Where the positions lie between zero and `hi`: one bit per entry of the table. -/
def inRange (hi : BitVec 32) (w : IVec ⟨3, ![256, 8, 1]⟩ 32)
    (h₀ : (⟨0, ![]⟩ : Shape).BroadcastsInDim ⟨3, ![256, 8, 1]⟩ ![])
    (h₁ : (⟨1, ![1]⟩ : Shape).BroadcastsInDim ⟨3, ![1, 1, 1]⟩ ![2])
    (h₂ : (⟨3, ![1, 1, 1]⟩ : Shape).BroadcastsInDim ⟨3, ![256, 8, 1]⟩ ![0, 1, 2])
    (h₃ : (⟨3, ![256, 8, 1]⟩ : Shape).ReducesTo [2] ⟨2, ![256, 8]⟩) (h₄ : 0 < (⟨0, ![]⟩ : Shape).numel) :
    IVec ⟨2, ![256, 8]⟩ 1 :=
  Host.reduce IntOp.andi (andi (cmpi .sge w (broadcastInDim ⟨3, ![256, 8, 1]⟩ ![] h₀ (constantI ⟨0, ![]⟩ 32 0#32)))
    (cmpi .sle w (broadcastInDim ⟨3, ![256, 8, 1]⟩ ![0, 1, 2] h₂ (broadcastInDim ⟨3, ![1, 1, 1]⟩ ![2] h₁
      (constantI ⟨1, ![1]⟩ 32 hi))))) (constantI ⟨0, ![]⟩ 1 1#1) h₃ h₄

/-- The bit is set at a position that is in range. -/
theorem inRange_apply {hi : BitVec 32} {w : IVec ⟨3, ![256, 8, 1]⟩ 32} {h₀ h₁ h₂ h₃ h₄} {q : Fin 256} {k : Fin 8}
    (h : (w (ix3 q k 0)).toNat ≤ hi.toNat) (hhi : hi.toNat < 2147483648) :
    inRange hi w h₀ h₁ h₂ h₃ h₄ (ix2 q k) = 1#1 := by
  pointwise [inRange]
  rw [Finset.univ_unique, Finset.fold_singleton]
  change (w (ix3 q k (default : Fin 1))).toNat ≤ hi.toNat at h
  generalize w (ix3 q k (default : Fin 1)) = v at h ⊢
  rw [cmpi_sge_zero, cmpi_sle_of_lt (by omega) (by omega), decide_eq_true (by omega), decide_eq_true h]
  rfl

/-- Whole rows of an array read at a table of row numbers, with `f` where a number is out of range. -/
def takeRows {N C : Nat} (n hi f : BitVec 32) (x : FVec Ideal ⟨2, ![N, C]⟩ .f32) (i : IVec ⟨2, ![256, 8]⟩ 32)
    (wf : GatherDims.WF ⟨2, ![N, C]⟩ ⟨3, ![256, 8, 1]⟩ ⟨3, ![256, 8, C]⟩ [2] [0] [] [0] [] 2 ![1, C])
    (h₀ : (⟨0, ![]⟩ : Shape).BroadcastsInDim ⟨2, ![256, 8]⟩ ![])
    (h₁ : (⟨2, ![256, 8]⟩ : Shape).BroadcastsInDim ⟨3, ![256, 8, 1]⟩ ![0, 1])
    (h₂ : (⟨0, ![]⟩ : Shape).BroadcastsInDim ⟨3, ![256, 8, 1]⟩ ![])
    (h₃ : (⟨1, ![1]⟩ : Shape).BroadcastsInDim ⟨3, ![1, 1, 1]⟩ ![2])
    (h₄ : (⟨3, ![1, 1, 1]⟩ : Shape).BroadcastsInDim ⟨3, ![256, 8, 1]⟩ ![0, 1, 2])
    (h₅ : (⟨3, ![256, 8, 1]⟩ : Shape).ReducesTo [2] ⟨2, ![256, 8]⟩) (h₆ : 0 < (⟨0, ![]⟩ : Shape).numel)
    (h₇ : (⟨2, ![256, 8]⟩ : Shape).BroadcastsInDim ⟨3, ![256, 8, C]⟩ ![0, 1])
    (h₈ : (⟨0, ![]⟩ : Shape).BroadcastsInDim ⟨3, ![256, 8, C]⟩ ![]) : FVec Ideal ⟨3, ![256, 8, C]⟩ .f32 :=
  select (broadcastInDim ⟨3, ![256, 8, C]⟩ ![0, 1] h₇ (inRange hi (wrapped n i h₀ h₁) h₂ h₃ h₄ h₅ h₆))
    (Host.gather (rowDims N C wf) x (wrapped n i h₀ h₁))
    (broadcastInDim ⟨3, ![256, 8, C]⟩ ![] h₈ (constant ⟨0, ![]⟩ .f32 f))

/-- At a row number in range the row read is the array's. -/
theorem takeRows_apply {N C : Nat} {n hi f : BitVec 32} {x : FVec Ideal ⟨2, ![N, C]⟩ .f32}
    {i : IVec ⟨2, ![256, 8]⟩ 32} {wf h₀ h₁ h₂ h₃ h₄ h₅ h₆ h₇ h₈} {q : Fin 256} {k : Fin 8} (d : Fin C)
    (hhi : hi.toNat = N - 1) (hN : N ≤ 2147483648) (h : (i (ix2 q k)).toNat < N) :
    takeRows n hi f x i wf h₀ h₁ h₂ h₃ h₄ h₅ h₆ h₇ h₈ (ix3 q k d) = x (ix2 ⟨(i (ix2 q k)).toNat, h⟩ d) := by
  have hw : wrapped n i h₀ h₁ (ix3 q k 0) = i (ix2 q k) := wrapped_apply (by omega)
  have hm : inRange hi (wrapped n i h₀ h₁) h₂ h₃ h₄ h₅ h₆ (ix2 q k) = 1#1 :=
    inRange_apply (by rw [hw]; omega) (by omega)
  have hb : broadcastInDim ⟨3, ![256, 8, C]⟩ ![0, 1] h₇ (inRange hi (wrapped n i h₀ h₁) h₂ h₃ h₄ h₅ h₆) (ix3 q k d) =
      1#1 := by
    rw [← hm]
    unfold broadcastInDim
    congr 1
    funext a
    match a with
    | ⟨0, _⟩ => rfl
    | ⟨1, _⟩ => rfl
  have hi' : (i (ix2 q k)).toInt.toNat = (i (ix2 q k)).toNat := by
    rw [toInt_eq_toNat_of_lt_half (by omega)]
    rfl
  unfold takeRows select
  rw [hb]
  change Host.gather (rowDims N C wf) x (wrapped n i h₀ h₁) (ix3 q k d) = _
  rw [gather_row (by omega)]
  congr 2
  refine Fin.ext ?_
  change min (wrapped n i h₀ h₁ (ix3 q k 0)).toInt.toNat (N - 1) = (i (ix2 q k)).toNat
  rw [hw, hi']
  omega

/-- Entries of a one-axis array of words read at a table of positions, with `f` where a position is out of range. -/
def takeWords {N : Nat} (n hi f : BitVec 32) (x : IVec ⟨1, ![N]⟩ 32) (i : IVec ⟨2, ![256, 8]⟩ 32)
    (d : GatherDims ⟨1, ![N]⟩ ⟨3, ![256, 8, 1]⟩ ⟨2, ![256, 8]⟩)
    (h₀ : (⟨0, ![]⟩ : Shape).BroadcastsInDim ⟨2, ![256, 8]⟩ ![])
    (h₁ : (⟨2, ![256, 8]⟩ : Shape).BroadcastsInDim ⟨3, ![256, 8, 1]⟩ ![0, 1])
    (h₂ : (⟨0, ![]⟩ : Shape).BroadcastsInDim ⟨3, ![256, 8, 1]⟩ ![])
    (h₃ : (⟨1, ![1]⟩ : Shape).BroadcastsInDim ⟨3, ![1, 1, 1]⟩ ![2])
    (h₄ : (⟨3, ![1, 1, 1]⟩ : Shape).BroadcastsInDim ⟨3, ![256, 8, 1]⟩ ![0, 1, 2])
    (h₅ : (⟨3, ![256, 8, 1]⟩ : Shape).ReducesTo [2] ⟨2, ![256, 8]⟩) (h₆ : 0 < (⟨0, ![]⟩ : Shape).numel) :
    IVec ⟨2, ![256, 8]⟩ 32 :=
  select (inRange hi (wrapped n i h₀ h₁) h₂ h₃ h₄ h₅ h₆) (Host.gather d x (wrapped n i h₀ h₁))
    (broadcastInDim ⟨2, ![256, 8]⟩ ![] h₀ (constantI ⟨0, ![]⟩ 32 f))

/-- A bound on every entry of the array bounds the entry read at a position in range. -/
theorem takeWords_lt {N B : Nat} {n hi f : BitVec 32} {x : IVec ⟨1, ![N]⟩ 32} {i : IVec ⟨2, ![256, 8]⟩ 32}
    {d h₀ h₁ h₂ h₃ h₄ h₅ h₆} {q : Fin 256} {k : Fin 8} (hhi : hi.toNat = N - 1) (hN : N ≤ 2147483648)
    (h : (i (ix2 q k)).toNat < N) (hx : ∀ j, (x j).toNat < B) :
    (takeWords n hi f x i d h₀ h₁ h₂ h₃ h₄ h₅ h₆ (ix2 q k)).toNat < B := by
  have hw : wrapped n i h₀ h₁ (ix3 q k 0) = i (ix2 q k) := wrapped_apply (by omega)
  have hm : inRange hi (wrapped n i h₀ h₁) h₂ h₃ h₄ h₅ h₆ (ix2 q k) = 1#1 :=
    inRange_apply (by rw [hw]; omega) (by omega)
  unfold takeWords select
  rw [hm]
  exact hx _

/-- The positions that the eight greatest of each row have are below the row's length. -/
theorem topK_lt {α : Type} (gt : α → α → BitVec 1) (x : (⟨2, ![256, 16384]⟩ : Shape).Idx → α)
    (h : (⟨2, ![256, 16384]⟩ : Shape).Slices (fun _ => 0) ⟨2, ![256, 8]⟩) (j : (⟨2, ![256, 8]⟩ : Shape).Idx) :
    ((Host.topK ⟨2, ![256, 8]⟩ 1 gt x h).2 j).toNat < 16384 := by
  have key : ∀ i : (⟨2, ![256, 16384]⟩ : Shape).Idx, (BitVec.ofNat 32 (i 1).val).toNat < 16384 := fun i => by
    have : (i 1).val < 16384 := (i 1).isLt
    rw [BitVec.toNat_ofNat]
    omega
  exact key _

end Cert.Fusion

end

end
-- ==== Proof.Host.lean ====
/-
  What the kernel's host lines between its stages compute, as functions of the buffers they read.
-/
module

public import proofs.«01_k».proof.Proof.Take
public import proofs.«01_k».proof.Proof.Gen.KernelIdeal.Frame
public import Idealize.ShloMosaic.Lib.StableHlo.RunRead

@[expose] public section

set_option maxRecDepth 16384

noncomputable section

namespace Cert.KernelIdeal.Reads

open Idealize.ShloMosaic Idealize.ShloMosaic.TcCoe Idealize.SL.Sem
open Cert.KernelIdeal Cert.KernelIdeal.Gen Cert.Fusion

variable (X : Valuation τ sig (Elt Ideal))

/-- The similarities, laid out by the stage in blocks of 128 stored rows, as one row per query. -/
def simTable (x : FVec Ideal S32768x128 .f32) : FVec Ideal S256x16384 .f32 :=
  shapeCast S256x16384 (transpose S256x128x128 [1, 0, 2] (shapeCast S128x256x128 x shapeCasts_S32768x128_S128x256x128)
    transposes_S128x256x128_S256x128x128_1_0_2) shapeCasts_S256x128x128_S256x16384

/-- The eight greatest similarities of each query. -/
theorem after2_values : StableHlo.after hostOps2 X (Proc.devRef .tc main_values) =
    (Host.topK S256x8 1 (FloatOps.cmpfTotal (F := Ideal) (φ := .f32) .gt) (simTable (X (Proc.devRef .tc main_v0_0)))
      sliceFits_S256x16384_S256x8).1 := by
  after_reads_simp
  rfl

/-- The stored rows they belong to. -/
theorem after2_indices : StableHlo.after hostOps2 X (Proc.devRef .tc main_indices) =
    (Host.topK S256x8 1 (FloatOps.cmpfTotal (F := Ideal) (φ := .f32) .gt) (simTable (X (Proc.devRef .tc main_v0_0)))
      sliceFits_S256x16384_S256x8).2 := by
  after_reads_simp
  rfl

/-- The stored rows at a table of positions. -/
def keyRows (x : FVec Ideal S16384x2048 .f32) (i : IVec S256x8 32) : FVec Ideal S256x8x2048 .f32 :=
  takeRows 16384#32 16383#32 0x7FC00000#32 x i gather_S16384x2048_S256x8x1_S256x8x2048_2_0_n_n_0_2_12048_wf
    bcast_S_S256x8 bcast_S256x8_S256x8x1_0_1 bcast_S_S256x8x1 bcast_S1_S1x1x1_2 bcast_S1x1x1_S256x8x1_0_1_2
    reducesTo_S256x8x1_S256x8_d2 h_S_ bcast_S256x8_S256x8x2048_0_1 bcast_S_S256x8x2048

/-- The labels at a table of positions. -/
def labelTable (x : IVec S16384 32) (i : IVec S256x8 32) : IVec S256x8 32 :=
  takeWords 16384#32 16383#32 2147483648#32 x i gather_S16384_S256x8x1_S256x8_n_0_n_n_0_2_1
    bcast_S_S256x8 bcast_S256x8_S256x8x1_0_1 bcast_S_S256x8x1 bcast_S1_S1x1x1_2 bcast_S1x1x1_S256x8x1_0_1_2
    reducesTo_S256x8x1_S256x8_d2 h_S_

/-- The label table's rows at a table of labels. -/
def labelRows (x : FVec Ideal S51x2048 .f32) (i : IVec S256x8 32) : FVec Ideal S256x8x2048 .f32 :=
  takeRows 51#32 50#32 0x7FC00000#32 x i gather_S51x2048_S256x8x1_S256x8x2048_2_0_n_n_0_2_12048_wf
    bcast_S_S256x8 bcast_S256x8_S256x8x1_0_1 bcast_S_S256x8x1 bcast_S1_S1x1x1_2 bcast_S1x1x1_S256x8x1_0_1_2
    reducesTo_S256x8x1_S256x8_d2 h_S_ bcast_S256x8_S256x8x2048_0_1 bcast_S_S256x8x2048

/-- The stored rows read at the positions found. -/
theorem after2_1_keys : StableHlo.after hostOps2_1 X (Proc.devRef .tc main_v5) =
    keyRows (X (Proc.devRef .tc main_arg1)) (X (Proc.devRef .tc main_indices)) := by
  after_reads_simp
  rfl

/-- The labels read at the positions found. -/
theorem after2_2_labels : StableHlo.after hostOps2_2 X (Proc.devRef .tc main_v6) =
    labelTable (X (Proc.devRef .tc main_arg2)) (X (Proc.devRef .tc main_indices)) := by
  after_reads_simp
  rfl

/-- The label table's rows read at the labels found. -/
theorem after5_rows : StableHlo.after hostOps5 X (Proc.devRef .tc main_v13) =
    labelRows (X (Proc.devRef .tc main_v12)) (X (Proc.devRef .tc main_v6)) := by
  after_reads_simp
  rfl

/-- The bias of the key-weight product is zero. -/
theorem after3_bias : StableHlo.after hostOps3 X (Proc.devRef .tc main_v8) =
    broadcastInDim S2048 ![] bcast_S_S2048 (constant (F := Ideal) S_ .f32 0x00000000#32) := by
  after_reads_simp

/-- The first bias of the label table, as one row. -/
theorem after4_bias₁ : StableHlo.after hostOps4 X (Proc.devRef .tc main_v10) =
    broadcastInDim S1x1024 ![1] bcast_S1024_S1x1024_1 (X (Proc.devRef .tc main_arg5)) := by
  after_reads_simp

/-- The second bias of the label table, as one row. -/
theorem after4_bias₂ : StableHlo.after hostOps4 X (Proc.devRef .tc main_v11) =
    broadcastInDim S1x2048 ![1] bcast_S2048_S1x2048_1 (X (Proc.devRef .tc main_arg7)) := by
  after_reads_simp

/-- The square root of the row length, at every entry of the score table. -/
def scale : FVec Ideal S256x8 .f32 :=
  broadcastInDim S256x8 ![] bcast_S_S256x8 (id (Host.sqrt (constant (F := Ideal) S_ .f32 0x45000000#32)))

/-- The normalised exponentials of a score table, row by row. -/
def weights (s : FVec Ideal S256x8 .f32) : FVec Ideal S256x8 .f32 :=
  let e : FVec Ideal S256x8 .f32 := Host.exp (subf s (broadcastInDim S256x8 ![0, 1] bcast_S256x1_S256x8_0_1
    (broadcastInDim S256x1 ![0] bcast_S256_S256x1_0 (maximumf
      (broadcastInDim S256 ![] bcast_S_S256 (constant S_ .f32 0xFF800000#32))
      (Host.reduce FloatOps.maximumf s (constant S_ .f32 0xFF800000#32) reducesTo_S256x8_S256_d1 h_S_)))))
  Host.divf e (broadcastInDim S256x8 ![0, 1] bcast_S256x1_S256x8_0_1 (broadcastInDim S256x1 ![0] bcast_S256_S256x1_0
    (Host.reduceAdd e (constant S_ .f32 0x00000000#32) reducesTo_S256x8_S256_d1 h_S_)))

/-- The kernel's scores: stored rows against the projected key weights, over the square root of the row length. -/
def scores (k : FVec Ideal S256x8x2048 .f32) (t : FVec Ideal S256x2048 .f32) : FVec Ideal S256x8 .f32 :=
  Host.divf (Host.dotGeneral dot_S256x8x2048_S256x2048_S256x8_2_1_1_n_0_0 none k t) scale

/-- The rows of each query's eight, mixed by weights. -/
def mixed (a : FVec Ideal S256x8 .f32) (k : FVec Ideal S256x8x2048 .f32) : FVec Ideal S256x2048 .f32 :=
  Host.dotGeneral dot_S256x8_S256x8x2048_S256x2048_1_1_n_2_0_0 none a k

/-- The mixed stored rows. -/
theorem after5_1_keys : StableHlo.after hostOps5_1 X (Proc.devRef .tc main_v30) =
    mixed (weights (scores (X (Proc.devRef .tc main_v5)) (X (Proc.devRef .tc main_v9)))) (X (Proc.devRef .tc main_v5)) := by
  after_reads_simp
  rfl

/-- The mixed label rows. -/
theorem after5_1_rows : StableHlo.after hostOps5_1 X (Proc.devRef .tc main_v31) =
    mixed (weights (scores (X (Proc.devRef .tc main_v5)) (X (Proc.devRef .tc main_v9)))) (X (Proc.devRef .tc main_v13)) := by
  after_reads_simp
  rfl

/-- The value weights' first half of rows, first half of columns. -/
theorem after5_1_top : StableHlo.after hostOps5_1 X (Proc.devRef .tc main_v32) =
    extractStridedSlice S2048x2048 ![0, 0] (X (Proc.devRef .tc main_arg12)) slices_S4096x4096_S2048x2048_0_0 := by
  after_reads_simp

/-- The value weights' second half of rows, first half of columns. -/
theorem after5_1_bottom : StableHlo.after hostOps5_1 X (Proc.devRef .tc main_v33) =
    extractStridedSlice S2048x2048 ![2048, 0] (X (Proc.devRef .tc main_arg12)) slices_S4096x4096_S2048x2048_2048_0 := by
  after_reads_simp

/-- The value bias's first half. -/
theorem after5_1_bias : StableHlo.after hostOps5_1 X (Proc.devRef .tc main_v34) =
    extractStridedSlice S2048 ![0] (X (Proc.devRef .tc main_arg13)) slices_S4096_S2048_0 := by
  after_reads_simp

end Cert.KernelIdeal.Reads

end

end
-- ==== Proof.KernelRun.lean ====
/-
  The kernel's run with its final contents: every buffer of the device ends at the contents that the stages, taken in
  order from the launch memory, leave in it.
-/
module

public import proofs.«01_k».proof.Proof.Gen.KernelIdeal.Frame

@[expose] public section

set_option maxRecDepth 16384

noncomputable section

namespace Cert.KernelIdeal.Reads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (m : (ℓ : Loc nD τ sig) → Buf (Elt F) ℓ) (ρ : Dev nD → PrngReg)

set_option backward.isDefEq.respectTransparency.types false in
/-- From any launch memory the kernel ends with every buffer at the last stage's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W13 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) :
            sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢
        bigSep Finset.univ (fun _ : Dev nD => (BI.emp : sProp (MT nD τ sig Unit (Elt F) ℕ (UR sig nD τ) ℕ))) from by
          rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) =
        StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => h)

end Cert.KernelIdeal.Reads

end

end
-- ==== Proof.KernelValue.lean ====
/-
  The kernel's three results as functions of its arguments: the stages' arrays and the host lines' values put together,
  from the launch memory to the last stage.
-/
module

public import proofs.«01_k».proof.Proof.Region0
public import proofs.«01_k».proof.Proof.Regions
public import proofs.«01_k».proof.Proof.Host
public import proofs.«01_k».proof.Proof.KernelRun

@[expose] public section

set_option maxRecDepth 16384

noncomputable section

namespace Cert.KernelIdeal.Reads

open Idealize.ShloMosaic Idealize.ShloMosaic.TcCoe Idealize.SL.Sem
open Cert.KernelIdeal Cert.KernelIdeal.Gen Cert.Fusion

/-- The eight greatest similarities of each query, with the stored rows they belong to. -/
def found (x : FVec Ideal S256x2048 .f32) (y : FVec Ideal S16384x2048 .f32) : FVec Ideal S256x8 .f32 × IVec S256x8 32 :=
  Host.topK S256x8 1 (FloatOps.cmpfTotal (F := Ideal) (φ := .f32) .gt) (simTable (simRows x y))
    sliceFits_S256x16384_S256x8

variable (m : (ℓ : Loc nD τ sig) → Buf (Elt Ideal) ℓ) (ρ : Dev nD → PrngReg) (c : Dev nD)

/-- An argument array of device `c`, as launched. -/
abbrev arg (r : Ref sig .tc) : Buf (Elt Ideal) ((c : Thread nD τ).loc r) := m ((c : Thread nD τ).loc r)

/-- The positions found. -/
abbrev pos : IVec S256x8 32 := (found (arg m c main_arg0) (arg m c main_arg1)).2
/-- The stored rows at the positions found. -/
abbrev keys : FVec Ideal S256x8x2048 .f32 := keyRows (arg m c main_arg1) (pos m c)
/-- The labels at the positions found. -/
abbrev labels : IVec S256x8 32 := labelTable (arg m c main_arg2) (pos m c)
/-- The mapped rows of the labels found. -/
abbrev rows : FVec Ideal S256x8x2048 .f32 :=
  labelRows (tableRows (arg m c main_arg3) (arg m c main_arg4)
    (broadcastInDim S1x1024 ![1] bcast_S1024_S1x1024_1 (arg m c main_arg5)) (arg m c main_arg6)
    (broadcastInDim S1x2048 ![1] bcast_S2048_S1x2048_1 (arg m c main_arg7))) (labels m c)
/-- The projected queries times the key weights. -/
abbrev keyWeights : FVec Ideal S256x2048 .f32 :=
  rowsByRows (projRows (arg m c main_arg0) (arg m c main_arg8) (arg m c main_arg9)) (arg m c main_arg10)
    (broadcastInDim S2048 ![] bcast_S_S2048 (constant (F := Ideal) S_ .f32 0x00000000#32))
/-- The attention weights. -/
abbrev attn : FVec Ideal S256x8 .f32 := weights (scores (keys m c) (keyWeights m c))
/-- The kernel's first result. -/
abbrev out : FVec Ideal S256x2048 .f32 :=
  fusedRows (mixed (attn m c) (keys m c)) (mixed (attn m c) (rows m c))
    (extractStridedSlice S2048x2048 ![0, 0] (arg m c main_arg12) slices_S4096x4096_S2048x2048_0_0)
    (extractStridedSlice S2048x2048 ![2048, 0] (arg m c main_arg12) slices_S4096x4096_S2048x2048_2048_0)
    (extractStridedSlice S2048 ![0] (arg m c main_arg13) slices_S4096_S2048_0) (arg m c main_arg0)

/-- The similarity array after the first stage. -/
theorem W2_sims : W2 m ρ c (Proc.devRef .tc main_v0_0) = simRows (arg m c main_arg0) (arg m c main_arg1) :=
  (W2_of m ρ c main_v0_0 (by decide)).trans ((W1_arr m ρ c 2).trans (final0 (V0 m ρ) c))

/-- The eight greatest similarities, after the first host lines. -/
theorem W3_values : W3 m ρ c (Proc.devRef .tc main_values) = (found (arg m c main_arg0) (arg m c main_arg1)).1 := by
  refine (after2_values _).trans ?_
  rw [W2_sims]
  rfl

/-- The positions found, after the first host lines. -/
theorem W3_pos : W3 m ρ c (Proc.devRef .tc main_indices) = pos m c := by
  refine (after2_indices _).trans ?_
  rw [W2_sims]
  rfl

/-- The positions found are kept by the take of the stored rows. -/
theorem W4_pos : W4 m ρ c (Proc.devRef .tc main_indices) = pos m c :=
  (W4_of m ρ c main_indices (by decide)).trans (W3_pos m ρ c)

/-- The stored rows at the positions found, after their take. -/
theorem W4_keys : W4 m ρ c (Proc.devRef .tc main_v5) = keys m c := by
  refine (after2_1_keys _).trans ?_
  rw [W3_pos, W3_args m ρ c main_arg1 (by decide)]

/-- The labels at the positions found, after their take. -/
theorem W5_labels : W5 m ρ c (Proc.devRef .tc main_v6) = labels m c := by
  refine (after2_2_labels _).trans ?_
  rw [W4_pos, W4_args m ρ c main_arg2 (by decide)]

/-- A buffer that nothing after the second take writes keeps its contents to the third. -/
theorem W10_keep (r : Ref sig .tc) (h6 : ∀ w : Fin cfg2.W, Pipeline.arrRef spec2 w = r → (cfg2.win w).isOut = false)
    (h7 : r ∉ hostOps3_W) (h8 : ∀ w : Fin cfg3.W, Pipeline.arrRef spec3 w = r → (cfg3.win w).isOut = false)
    (h9 : r ∉ hostOps4_W) (h10 : ∀ w : Fin cfg4.W, Pipeline.arrRef spec4 w = r → (cfg4.win w).isOut = false) :
    W10 m ρ c (Proc.devRef .tc r) = W5 m ρ c (Proc.devRef .tc r) :=
  (W10_of m ρ c r h10).trans ((W9_of m ρ c r h9).trans ((W8_of m ρ c r h8).trans
    ((W7_of m ρ c r h7).trans (W6_of m ρ c r h6))))

/-- The labels are kept up to the label table. -/
theorem W10_labels : W10 m ρ c (Proc.devRef .tc main_v6) = labels m c :=
  (W10_keep m ρ c main_v6 (by decide) (by decide) (by decide) (by decide) (by decide)).trans (W5_labels m ρ c)

/-- The stored rows found are kept up to the take of the label rows. -/
theorem W11_keys : W11 m ρ c (Proc.devRef .tc main_v5) = keys m c :=
  (W11_of m ρ c main_v5 (by decide)).trans
    ((W10_keep m ρ c main_v5 (by decide) (by decide) (by decide) (by decide) (by decide)).trans
      ((W5_of m ρ c main_v5 (by decide)).trans (W4_keys m ρ c)))

/-- The projected queries after their stage. -/
theorem W6_proj : W6 m ρ c (Proc.devRef .tc main_v7) =
    projRows (arg m c main_arg0) (arg m c main_arg8) (arg m c main_arg9) := by
  refine ((W6_arr m ρ c 3).trans (final2 (V5 m ρ) c)).trans ?_
  dsimp only [V5]
  rw [W5_args m ρ c main_arg0 (by decide), W5_args m ρ c main_arg8 (by decide), W5_args m ρ c main_arg9 (by decide)]

/-- The projected queries times the key weights, after their stage. -/
theorem W8_keyWeights : W8 m ρ c (Proc.devRef .tc main_v9) = keyWeights m c := by
  refine ((W8_arr m ρ c 3).trans (final3 (V7 m ρ) c)).trans ?_
  dsimp only [V7]
  rw [(W7_of m ρ c main_v7 (by decide)).trans (W6_proj m ρ c), W7_args m ρ c main_arg10 (by decide)]
  exact congrArg _ (after3_bias _)

/-- They are kept up to the take of the label rows. -/
theorem W11_keyWeights : W11 m ρ c (Proc.devRef .tc main_v9) = keyWeights m c :=
  (W11_of m ρ c main_v9 (by decide)).trans ((W10_of m ρ c main_v9 (by decide)).trans
    ((W9_of m ρ c main_v9 (by decide)).trans (W8_keyWeights m ρ c)))

/-- The label table after its stage. -/
theorem W10_table : W10 m ρ c (Proc.devRef .tc main_v12) =
    tableRows (arg m c main_arg3) (arg m c main_arg4)
      (broadcastInDim S1x1024 ![1] bcast_S1024_S1x1024_1 (arg m c main_arg5)) (arg m c main_arg6)
      (broadcastInDim S1x2048 ![1] bcast_S2048_S1x2048_1 (arg m c main_arg7)) := by
  have e₁ : W9 m ρ c (Proc.devRef .tc main_v10) =
      broadcastInDim S1x1024 ![1] bcast_S1024_S1x1024_1 (arg m c main_arg5) := by
    refine (after4_bias₁ _).trans ?_
    rw [W8_args m ρ c main_arg5 (by decide)]
  have e₂ : W9 m ρ c (Proc.devRef .tc main_v11) =
      broadcastInDim S1x2048 ![1] bcast_S2048_S1x2048_1 (arg m c main_arg7) := by
    refine (after4_bias₂ _).trans ?_
    rw [W8_args m ρ c main_arg7 (by decide)]
  refine ((W10_arr m ρ c 5).trans (final4 (V9 m ρ) c)).trans ?_
  dsimp only [V9]
  rw [e₁, e₂, W9_args m ρ c main_arg3 (by decide), W9_args m ρ c main_arg4 (by decide),
    W9_args m ρ c main_arg6 (by decide)]

/-- The mapped rows of the labels found, after their take. -/
theorem W11_rows : W11 m ρ c (Proc.devRef .tc main_v13) = rows m c := by
  refine (after5_rows _).trans ?_
  rw [W10_table, W10_labels]

/-- The first result after the last stage. -/
theorem W13_out : W13 m ρ c (Proc.devRef .tc main_v35) = out m c := by
  have e₀ : W12 m ρ c (Proc.devRef .tc main_v30) = mixed (attn m c) (keys m c) := by
    refine (after5_1_keys _).trans ?_
    rw [W11_keys, W11_keyWeights]
  have e₁ : W12 m ρ c (Proc.devRef .tc main_v31) = mixed (attn m c) (rows m c) := by
    refine (after5_1_rows _).trans ?_
    rw [W11_keys, W11_keyWeights, W11_rows]
  have e₂ : W12 m ρ c (Proc.devRef .tc main_v32) =
      extractStridedSlice S2048x2048 ![0, 0] (arg m c main_arg12) slices_S4096x4096_S2048x2048_0_0 := by
    refine (after5_1_top _).trans ?_
    rw [W11_args m ρ c main_arg12 (by decide)]
  have e₃ : W12 m ρ c (Proc.devRef .tc main_v33) =
      extractStridedSlice S2048x2048 ![2048, 0] (arg m c main_arg12) slices_S4096x4096_S2048x2048_2048_0 := by
    refine (after5_1_bottom _).trans ?_
    rw [W11_args m ρ c main_arg12 (by decide)]
  have e₄ : W12 m ρ c (Proc.devRef .tc main_v34) =
      extractStridedSlice S2048 ![0] (arg m c main_arg13) slices_S4096_S2048_0 := by
    refine (after5_1_bias _).trans ?_
    rw [W11_args m ρ c main_arg13 (by decide)]
  refine ((W13_arr m ρ c 6).trans (final5 (V12 m ρ) c)).trans ?_
  dsimp only [V12]
  rw [e₀, e₁, e₂, e₃, e₄, W12_args m ρ c main_arg0 (by decide)]

/-- A buffer that nothing after the labels' take writes keeps its contents to the end. -/
theorem W13_keep (r : Ref sig .tc) (h11 : r ∉ hostOps5_W) (h12 : r ∉ hostOps5_1_W)
    (h13 : ∀ w : Fin cfg5.W, Pipeline.arrRef spec5 w = r → (cfg5.win w).isOut = false) :
    W13 m ρ c (Proc.devRef .tc r) = W10 m ρ c (Proc.devRef .tc r) :=
  (W13_of m ρ c r h13).trans ((W12_of m ρ c r h12).trans (W11_of m ρ c r h11))

/-- The second result after the last stage. -/
theorem W13_values : W13 m ρ c (Proc.devRef .tc main_values) = (found (arg m c main_arg0) (arg m c main_arg1)).1 :=
  (W13_keep m ρ c main_values (by decide) (by decide) (by decide)).trans
    ((W10_keep m ρ c main_values (by decide) (by decide) (by decide) (by decide) (by decide)).trans
      ((W5_of m ρ c main_values (by decide)).trans ((W4_of m ρ c main_values (by decide)).trans (W3_values m ρ c))))

/-- The third result after the last stage. -/
theorem W13_labels : W13 m ρ c (Proc.devRef .tc main_v6) = labels m c :=
  (W13_keep m ρ c main_v6 (by decide) (by decide) (by decide)).trans (W10_labels m ρ c)

end Cert.KernelIdeal.Reads

end

end
-- ==== Proof.RefValue.lean ====
/-
  The reference's similarities, positions, stored rows and labels are the kernel's, and both programs' attention read
  entry by entry.
-/
module

public import proofs.«01_k».proof.Proof.Softmax
public import proofs.«01_k».proof.Proof.KernelValue
public import proofs.«01_k».proof.Proof.Gen.ReferenceIdeal.Run

@[expose] public section

set_option maxRecDepth 16384

noncomputable section

namespace Cert.ReferenceIdeal.Reads

open Idealize.ShloMosaic Idealize.ShloMosaic.TcCoe Idealize.SL.Sem
open Cert.ReferenceIdeal Cert.ReferenceIdeal.Gen Cert.ReferenceIdeal.Value Cert.Fusion
open Cert.KernelIdeal.Reads (simTable simRows found keyRows labelTable weights)

/-- The kernel's similarity table, entry by entry. -/
theorem simTable_apply (x : FVec Ideal S256x2048 .f32) (y : FVec Ideal S16384x2048 .f32) (q : Fin 256) (n : Fin 16384) :
    simTable (simRows x y) (ix2 q n) = simAt x y q n := by
  pointwise [simTable, simRows]
  congr 1 <;> apply Fin.ext <;> simp <;> omega

variable (L : Valuation τ sig (Elt Ideal))

/-- The reference's similarity table, entry by entry. -/
theorem sims_apply (q : Fin 256) (n : Fin 16384) :
    res_main_v11 L (ix2 q n) = simAt (L (Proc.devRef .tc main_arg0)) (L (Proc.devRef .tc main_arg1)) q n := by
  unfold res_main_v11

  pointwise [simAt, unitRow, tiny]

/-- The two similarity tables are one. -/
theorem sims_eq : res_main_v11 L =
    simTable (simRows (L (Proc.devRef .tc main_arg0)) (L (Proc.devRef .tc main_arg1))) := by
  funext j
  rw [← ix2_eta j]
  exact (sims_apply L _ _).trans (simTable_apply _ _ _ _).symm

/-- The reference's positions are the kernel's. -/
theorem pos_eq : res_main_indices L = (found (L (Proc.devRef .tc main_arg0)) (L (Proc.devRef .tc main_arg1))).2 := by
  unfold res_main_indices found
  rw [sims_eq]

/-- The reference's greatest similarities are the kernel's. -/
theorem values_eq : (Host.topK S256x8 1 (FloatOps.cmpfTotal (F := Ideal) (φ := .f32) .gt) (res_main_v11 L)
    sliceFits_S256x16384_S256x8).1 = (found (L (Proc.devRef .tc main_arg0)) (L (Proc.devRef .tc main_arg1))).1 := by
  unfold found
  rw [sims_eq]

/-- The reference's stored rows, read at its positions. -/
theorem keys_eq : res_main_v12 L = keyRows (L (Proc.devRef .tc main_arg1)) (res_main_indices L) := rfl

/-- The reference's labels, read at its positions. -/
theorem labels_eq : res_main_v13 L = labelTable (L (Proc.devRef .tc main_arg2)) (res_main_indices L) := rfl

end Cert.ReferenceIdeal.Reads

end

end
-- ==== Proof.Attention.lean ====
/-
  Both programs' first result, entry by entry: the reference's attention over the eight stored rows, and the kernel's,
  with the key weights applied to the query instead and the value weights applied to the mixed rows.
-/
module

public import proofs.«01_k».proof.Proof.RefValue

@[expose] public section

set_option maxRecDepth 16384

noncomputable section

namespace Cert.ReferenceIdeal.Reads

open Idealize.ShloMosaic Idealize.ShloMosaic.TcCoe Idealize.SL.Sem
open Cert.ReferenceIdeal Cert.ReferenceIdeal.Gen Cert.ReferenceIdeal.Value Cert.Fusion
open Cert.KernelIdeal.Reads (simTable simRows found keyRows labelTable weights scores mixed projRows rowsByRows fusedRows
  scale)

/-- The square root of the row length. -/
abbrev rootLen : EReal := Ideal.sqrt (Ideal.ofBits .f32 0x45000000#32)

/-- The attention weights, entry by entry. -/
theorem weights_apply (s : FVec Ideal S256x8 .f32) (q : Fin 256) (k : Fin 8) :
    weights s (ix2 q k) = soft (fun k => s (ix2 q k)) k := by
  have hb : Ideal.ofBits .f32 0xFF800000#32 = ⊥ := by simp [Ideal.ofBits, Ideal.ieee]
  pointwise [weights, soft, peak, hb]

/-- The kernel's scores, entry by entry. -/
theorem scores_apply (x : FVec Ideal S256x8x2048 .f32) (t : FVec Ideal S256x2048 .f32) (q : Fin 256) (k : Fin 8) :
    scores x t (ix2 q k) = Ideal.div (∑ d : Fin 2048, x (ix3 q k d) * t (ix2 q d)) rootLen := by
  pointwise [scores, scale]
  rfl

/-- Mixed rows, entry by entry. -/
theorem mixed_apply (a : FVec Ideal S256x8 .f32) (x : FVec Ideal S256x8x2048 .f32) (q : Fin 256) (d : Fin 2048) :
    mixed a x (ix2 q d) = ∑ k : Fin 8, a (ix2 q k) * x (ix3 q k d) := by
  pointwise [mixed]

variable (L : Valuation τ sig (Elt Ideal))

/-- The reference's scores: projected queries against projected stored rows, over the square root of the row length. -/
def refScores (a₀ : FVec Ideal S256x2048 .f32) (w : FVec Ideal S2048x2048 .f32) (b : FVec Ideal S2048 .f32)
    (x : FVec Ideal S256x8x2048 .f32) (u : FVec Ideal S2048x2048 .f32) (v : FVec Ideal S2048 .f32) :
    FVec Ideal S256x8 .f32 :=
  Host.divf (Host.dotGeneral dot_S256x2048_S256x8x2048_S256x8_1_2_n_1_0_0 none
    (addf (Host.dotGeneral dot_S256x2048_S2048x2048_S256x2048_1_0_0_1_n_n none a₀ w)
      (broadcastInDim S256x2048 ![0, 1] bcast_S1x2048_S256x2048_0_1
        (broadcastInDim S1x2048 ![1] bcast_S2048_S1x2048_1 b)))
    (addf (Host.dotGeneral dot_S256x8x2048_S2048x2048_S256x8x2048_2_0_01_1_n_n none x u)
      (broadcastInDim S256x8x2048 ![0, 1, 2] bcast_S1x1x2048_S256x8x2048_0_1_2
        (broadcastInDim S1x1x2048 ![2] bcast_S2048_S1x1x2048_2 v))))
    (broadcastInDim S256x8 ![] bcast_S_S256x8 (id (Host.sqrt (constant S_ .f32 0x45000000#32))))

/-- The program's scores are these. -/
theorem refScores_eq : res_main_v41 L = refScores (L (Proc.devRef .tc main_arg0)) (L (Proc.devRef .tc main_arg8))
    (L (Proc.devRef .tc main_arg9)) (res_main_v12 L) (L (Proc.devRef .tc main_arg10)) (L (Proc.devRef .tc main_arg11)) :=
  rfl

/-- The reference's scores, entry by entry. -/
theorem refScores_apply (a₀ : FVec Ideal S256x2048 .f32) (w : FVec Ideal S2048x2048 .f32) (b : FVec Ideal S2048 .f32)
    (x : FVec Ideal S256x8x2048 .f32) (u : FVec Ideal S2048x2048 .f32) (v : FVec Ideal S2048 .f32)
    (q : Fin 256) (k : Fin 8) :
    refScores a₀ w b x u v (ix2 q k) = Ideal.div (∑ e : Fin 2048,
      affine a₀ w b q e * (∑ d : Fin 2048, x (ix3 q k d) * u (ix2 d e) + v (ix1 e))) rootLen := by
  pointwise [refScores, affine]
  rfl

/-- The label features at the reference's labels. -/
abbrev refFeatures : FVec Ideal S256x8x300 .f32 :=
  takeRows 51#32 50#32 0x7FC00000#32 (L (Proc.devRef .tc main_arg3)) (res_main_v13 L)
    gather_S51x300_S256x8x1_S256x8x300_2_0_n_n_0_2_1300_wf
    bcast_S_S256x8 bcast_S256x8_S256x8x1_0_1 bcast_S_S256x8x1 bcast_S1_S1x1x1_2 bcast_S1x1x1_S256x8x1_0_1_2
    reducesTo_S256x8x1_S256x8_d2 h_S_ bcast_S256x8_S256x8x300_0_1 bcast_S_S256x8x300

/-- The mapped rows of the labels, from their features. -/
def mapped (f : FVec Ideal S256x8x300 .f32) (w₁ : FVec Ideal S300x1024 .f32) (b₁ : FVec Ideal S1024 .f32)
    (w₂ : FVec Ideal S1024x2048 .f32) (b₂ : FVec Ideal S2048 .f32) : FVec Ideal S256x8x2048 .f32 :=
  addf (Host.dotGeneral dot_S256x8x1024_S1024x2048_S256x8x2048_2_0_01_1_n_n none (maximumf
    (addf (Host.dotGeneral dot_S256x8x300_S300x1024_S256x8x1024_2_0_01_1_n_n none f w₁)
      (broadcastInDim S256x8x1024 ![0, 1, 2] bcast_S1x1x1024_S256x8x1024_0_1_2
        (broadcastInDim S1x1x1024 ![2] bcast_S1024_S1x1x1024_2 b₁)))
    (broadcastInDim S256x8x1024 ![] bcast_S_S256x8x1024 (constant S_ .f32 0x00000000#32))) w₂)
    (broadcastInDim S256x8x2048 ![0, 1, 2] bcast_S1x1x2048_S256x8x2048_0_1_2
      (broadcastInDim S1x1x2048 ![2] bcast_S2048_S1x1x2048_2 b₂))

/-- They are the two-layer map of each label's features. -/
theorem mapped_apply (f : FVec Ideal S256x8x300 .f32) (w₁ : FVec Ideal S300x1024 .f32) (b₁ : FVec Ideal S1024 .f32)
    (w₂ : FVec Ideal S1024x2048 .f32) (b₂ : FVec Ideal S2048 .f32) (q : Fin 256) (k : Fin 8) (n : Fin 2048) :
    mapped f w₁ b₁ w₂ b₂ (ix3 q k n) =
      mlp (fun d => f (ix3 q k d)) w₁ (fun h => b₁ (ix1 h)) w₂ (fun n => b₂ (ix1 n)) n := by
  pointwise [mapped, mlp]

/-- The reference's mapped rows. -/
abbrev refRows : FVec Ideal S256x8x2048 .f32 :=
  mapped (refFeatures L) (L (Proc.devRef .tc main_arg4)) (L (Proc.devRef .tc main_arg5)) (L (Proc.devRef .tc main_arg6))
    (L (Proc.devRef .tc main_arg7))

/-- The first columns of the attention's value rows, mixed by the attention weights. -/
def attended (a : FVec Ideal S256x8 .f32) (x y : FVec Ideal S256x8x2048 .f32) (w : FVec Ideal S4096x4096 .f32)
    (b : FVec Ideal S4096 .f32) : FVec Ideal S256x2048 .f32 :=
  extractStridedSlice S256x2048 ![0, 0] (Host.dotGeneral dot_S256x8_S256x8x4096_S256x4096_1_1_n_2_0_0 none a
    (addf (Host.dotGeneral dot_S256x8x4096_S4096x4096_S256x8x4096_2_0_01_1_n_n none
      (concatenate S256x8x4096 2 [⟨S256x8x2048, x⟩, ⟨S256x8x2048, y⟩]
        concatenates_S256x8x2048_S256x8x2048_S256x8x4096_d2) w)
      (broadcastInDim S256x8x4096 ![0, 1, 2] bcast_S1x1x4096_S256x8x4096_0_1_2
        (broadcastInDim S1x1x4096 ![2] bcast_S4096_S1x1x4096_2 b)))) slices_S256x4096_S256x2048_0_0

/-- The reference's mixed values are these. -/
theorem attended_eq : res_main_v54 L = attended (weights (res_main_v41 L)) (res_main_v12 L) (refRows L)
    (L (Proc.devRef .tc main_arg12)) (L (Proc.devRef .tc main_arg13)) := rfl

/-- Entry `(q, j)` of the mixed values. -/
theorem attended_apply (a : FVec Ideal S256x8 .f32) (x y : FVec Ideal S256x8x2048 .f32) (w : FVec Ideal S4096x4096 .f32)
    (b : FVec Ideal S4096 .f32) (q : Fin 256) (j : Fin 2048) :
    attended a x y w b (ix2 q j) = ∑ k : Fin 8, a (ix2 q k)
      * ((∑ d : Fin 2048, x (ix3 q k d) * w (ix2 ⟨d.val, by omega⟩ ⟨j.val, by omega⟩)
          + ∑ d : Fin 2048, y (ix3 q k d) * w (ix2 ⟨2048 + d.val, by omega⟩ ⟨j.val, by omega⟩))
        + b (ix1 ⟨j.val, by omega⟩)) := by
  pointwise [attended]

end Cert.ReferenceIdeal.Reads

end

end
-- ==== Proof.Precondition.lean ====
/-
  What the precondition says: every entry of the float arguments that it names is a real number, and every label is
  below 51.
-/
module

public import proofs.«01_k».proof.Proof.Softmax
public import Idealize.ShloMosaic.Lib.Pointwise
public import Idealize.ShloMosaic.Lib.ReduceAll
public import Idealize.ShloMosaic.Lib.WordCmp
public import proofs.«01_k».proof.Defs

@[expose] public section

set_option maxRecDepth 16384

noncomputable section

namespace Cert.Pre_finite_and_labelled

open Idealize.ShloMosaic Idealize.ShloMosaic.WordCmp Cert.Fusion Cert.Pre_finite_and_labelled.Facts

/-- The shape relations the precondition's operations take. -/
instance facts : Cert.Pre_finite_and_labelled.Facts where
  bcast_S_S256x2048 := by decide
  reducesTo_S256x2048_S_d0_1 := by decide
  h_S_ := by decide
  bcast_S_S16384x2048 := by decide
  reducesTo_S16384x2048_S_d0_1 := by decide
  bcast_S_S16384 := by decide
  reducesTo_S16384_S_d0 := by decide
  bcast_S_S51x300 := by decide
  reducesTo_S51x300_S_d0_1 := by decide
  bcast_S_S300x1024 := by decide
  reducesTo_S300x1024_S_d0_1 := by decide
  bcast_S_S1024x2048 := by decide
  reducesTo_S1024x2048_S_d0_1 := by decide
  bcast_S_S2048x2048 := by decide
  reducesTo_S2048x2048_S_d0_1 := by decide
  bcast_S_S2048 := by decide
  reducesTo_S2048_S_d0 := by decide
  slices_S4096x4096_S4096x2048_0_0 := by decide
  bcast_S_S4096x2048 := by decide
  reducesTo_S4096x2048_S_d0_1 := by decide

/-- The test that every entry of an array is finite: one bit. -/
def allFinite {s : Shape} {ax : List (Fin s.rank)} (x : FVec Ideal s .f32) (hb : S_.BroadcastsInDim s ![])
    (hr : s.ReducesTo ax S_) (h₀ : 0 < S_.numel) : IVec S_ 1 :=
  Host.reduce IntOp.andi (cmpf .olt (Host.absf x) (broadcastInDim s ![] hb (constant S_ .f32 0x7F800000#32)))
    (constantI S_ 1 1#1) hr h₀

/-- An array that passes the test has real entries. -/
theorem allFinite_real {s : Shape} {ax : List (Fin s.rank)} {x : FVec Ideal s .f32} {hb : S_.BroadcastsInDim s ![]}
    {hr : s.ReducesTo ax S_} {h₀ : 0 < S_.numel} (h : allFinite x hb hr h₀ = fun _ => 1#1) (i : s.Idx) :
    IsReal (x i) := by
  haveI : Subsingleton S_.Idx := ⟨fun a b => funext fun k => k.elim0⟩
  have hi := Host.reduce_andi_all _ _ hr h₀ (fun k => k.elim0) (congrFun h _) i
  have ht : Ideal.ofBits .f32 0x7F800000#32 = ⊤ := by simp [Ideal.ofBits, Ideal.ieee]
  change BitVec.ofBool (decide (max (x i) (-(x i)) < Ideal.ofBits .f32 0x7F800000#32)) = 1#1 at hi
  rw [ofBool_decide_eq_one_iff, ht] at hi
  exact isReal_of_abs_lt_top hi

/-- The test that every label lies between 0 and 50: one bit. -/
def labelled (x : IVec S16384 32) (hb : S_.BroadcastsInDim S16384 ![]) (hr : S16384.ReducesTo [0] S_)
    (h₀ : 0 < S_.numel) : IVec S_ 1 :=
  Host.reduce IntOp.andi (andi (cmpi .sge x (broadcastInDim S16384 ![] hb (constantI S_ 32 0#32)))
    (cmpi .slt x (broadcastInDim S16384 ![] hb (constantI S_ 32 51#32)))) (constantI S_ 1 1#1) hr h₀

/-- Labels that pass the test are below 51. -/
theorem labelled_lt {x : IVec S16384 32} {hb hr h₀} (h : labelled x hb hr h₀ = fun _ => 1#1) (i : S16384.Idx) :
    (x i).toNat < 51 := by
  haveI : Subsingleton S_.Idx := ⟨fun a b => funext fun k => k.elim0⟩
  have hi := Host.reduce_andi_all _ _ hr h₀ (fun k => k.elim0) (congrFun h _) i
  change IntOp.andi (IntOp.cmpi .sge (x i) 0#32) (IntOp.cmpi .slt (x i) 51#32) = 1#1 at hi
  rw [andi_sge_zero_slt_ofNat (by decide)] at hi
  exact (ofBool_decide_eq_one_iff _).1 hi

/-- Two bits whose conjunction is one are both one. -/
theorem both {x y : IVec S_ 1} (h : andi x y = fun _ => 1#1) : x = (fun _ => 1#1) ∧ y = (fun _ => 1#1) := by
  have key : ∀ a b : BitVec 1, IntOp.andi a b = 1#1 → a = 1#1 ∧ b = 1#1 := by decide
  exact ⟨funext fun j => (key _ _ (congrFun h j)).1, funext fun j => (key _ _ (congrFun h j)).2⟩

/-- The precondition, with each argument's test under its name. -/
theorem fn_eq (a0 : FVec Ideal S256x2048 .f32) (a1 : FVec Ideal S16384x2048 .f32) (a2 : IVec S16384 32) (a3 : FVec Ideal S51x300 .f32) (a4 : FVec Ideal S300x1024 .f32) (a5 : FVec Ideal S1024 .f32) (a6 : FVec Ideal S1024x2048 .f32) (a7 : FVec Ideal S2048 .f32) (a8 : FVec Ideal S2048x2048 .f32) (a9 : FVec Ideal S2048 .f32) (a10 : FVec Ideal S2048x2048 .f32) (a11 : FVec Ideal S2048 .f32) (a12 : FVec Ideal S4096x4096 .f32) (a13 : FVec Ideal S4096 .f32) :
    fn (F := Ideal) a0 a1 a2 a3 a4 a5 a6 a7 a8 a9 a10 a11 a12 a13 =
    (andi (andi (andi (andi (andi (andi (andi (andi (andi (andi (allFinite a0 bcast_S_S256x2048 reducesTo_S256x2048_S_d0_1 h_S_)
    (allFinite a1 bcast_S_S16384x2048 reducesTo_S16384x2048_S_d0_1 h_S_))
    (labelled a2 bcast_S_S16384 reducesTo_S16384_S_d0 h_S_))
    (allFinite a3 bcast_S_S51x300 reducesTo_S51x300_S_d0_1 h_S_))
    (allFinite a4 bcast_S_S300x1024 reducesTo_S300x1024_S_d0_1 h_S_))
    (allFinite a6 bcast_S_S1024x2048 reducesTo_S1024x2048_S_d0_1 h_S_))
    (allFinite a8 bcast_S_S2048x2048 reducesTo_S2048x2048_S_d0_1 h_S_))
    (allFinite a9 bcast_S_S2048 reducesTo_S2048_S_d0 h_S_))
    (allFinite a10 bcast_S_S2048x2048 reducesTo_S2048x2048_S_d0_1 h_S_))
    (allFinite a11 bcast_S_S2048 reducesTo_S2048_S_d0 h_S_))
    (allFinite (extractStridedSlice S4096x2048 ![0, 0] a12 slices_S4096x4096_S4096x2048_0_0) bcast_S_S4096x2048 reducesTo_S4096x2048_S_d0_1 h_S_)) := rfl

/-- What the precondition says about each argument that it names, in order. -/
theorem fn_real {a0 : FVec Ideal S256x2048 .f32} {a1 : FVec Ideal S16384x2048 .f32} {a2 : IVec S16384 32} {a3 : FVec Ideal S51x300 .f32} {a4 : FVec Ideal S300x1024 .f32} {a5 : FVec Ideal S1024 .f32} {a6 : FVec Ideal S1024x2048 .f32} {a7 : FVec Ideal S2048 .f32} {a8 : FVec Ideal S2048x2048 .f32} {a9 : FVec Ideal S2048 .f32} {a10 : FVec Ideal S2048x2048 .f32} {a11 : FVec Ideal S2048 .f32} {a12 : FVec Ideal S4096x4096 .f32} {a13 : FVec Ideal S4096 .f32}
    (h : fn (F := Ideal) a0 a1 a2 a3 a4 a5 a6 a7 a8 a9 a10 a11 a12 a13 = fun _ => 1#1) :
    (∀ i, IsReal (a0 i)) ∧
    (∀ i, IsReal (a1 i)) ∧
    (∀ i, (a2 i).toNat < 51) ∧
    (∀ i, IsReal (a3 i)) ∧
    (∀ i, IsReal (a4 i)) ∧
    (∀ i, IsReal (a6 i)) ∧
    (∀ i, IsReal (a8 i)) ∧
    (∀ i, IsReal (a9 i)) ∧
    (∀ i, IsReal (a10 i)) ∧
    (∀ i, IsReal (a11 i)) ∧
    (∀ (d : Fin 4096) (n : Fin 2048), IsReal (a12 (ix2 d ⟨n.val, by omega⟩))) := by
  rw [fn_eq] at h
  obtain ⟨h, h12⟩ := both h
  obtain ⟨h, h11⟩ := both h
  obtain ⟨h, h10⟩ := both h
  obtain ⟨h, h9⟩ := both h
  obtain ⟨h, h8⟩ := both h
  obtain ⟨h, h6⟩ := both h
  obtain ⟨h, h4⟩ := both h
  obtain ⟨h, h3⟩ := both h
  obtain ⟨h, h2⟩ := both h
  obtain ⟨h, h1⟩ := both h
  refine ⟨allFinite_real h, allFinite_real h1, labelled_lt h2, allFinite_real h3, allFinite_real h4, allFinite_real h6, allFinite_real h8, allFinite_real h9, allFinite_real h10, allFinite_real h11, fun d n => ?_⟩
  have := allFinite_real h12 (ix2 d n)
  pointwise at this
  simpa using this

end Cert.Pre_finite_and_labelled

end

end
-- ==== Proof.Result.lean ====
/-
  The two programs' results are equal where the precondition holds: the attention computed the kernel's way is the
  reference's, on real inputs and labels in range.
-/
module

public import proofs.«01_k».proof.Proof.Attention
public import proofs.«01_k».proof.Proof.Precondition

@[expose] public section

set_option maxRecDepth 16384

noncomputable section

namespace Cert.ReferenceIdeal.Reads

open Idealize.ShloMosaic Idealize.ShloMosaic.TcCoe Idealize.SL.Sem
open Cert.ReferenceIdeal Cert.ReferenceIdeal.Gen Cert.ReferenceIdeal.Value Cert.Fusion
open Cert.KernelIdeal.Reads (simTable simRows found keyRows labelTable labelRows tableRows weights scores mixed projRows
  rowsByRows fusedRows)

/-- The square root of the row length is a nonzero real number. -/
theorem rootLen_real : IsReal rootLen ∧ rootLen ≠ 0 := by
  have h : Ideal.ofBits .f32 0x45000000#32 = ((2048 : ℝ) : EReal) := by
    simp only [Ideal.ofBits, Ideal.ieee]
    simp
    rw [← EReal.coe_mul]
    norm_num
  have e : rootLen = ((Real.sqrt 2048 : ℝ) : EReal) := by
    rw [rootLen, h, Ideal.sqrt_coe, if_neg (by norm_num)]
  rw [e]
  refine ⟨isReal_coe _, fun h0 => ?_⟩
  have : Real.sqrt 2048 = 0 := by exact_mod_cast h0
  rw [Real.sqrt_eq_zero (by norm_num)] at this
  norm_num at this

/-- The zero bias of the key-weight product. -/
abbrev noBias : FVec Ideal S2048 .f32 :=
  broadcastInDim S2048 ![] Cert.KernelIdeal.Gen.bcast_S_S2048 (constant (F := Ideal) S_ .f32 0x00000000#32)

/-- The kernel's scores from the query, entry by entry. -/
theorem kernelScores_apply (a₀ : FVec Ideal S256x2048 .f32) (w : FVec Ideal S2048x2048 .f32) (b : FVec Ideal S2048 .f32)
    (x : FVec Ideal S256x8x2048 .f32) (u : FVec Ideal S2048x2048 .f32) (q : Fin 256) (k : Fin 8) :
    scores x (rowsByRows (projRows a₀ w b) u noBias) (ix2 q k) = Ideal.div (∑ d : Fin 2048,
      x (ix3 q k d) * ∑ e : Fin 2048, affine a₀ w b q e * u (ix2 d e)) rootLen := by
  have h0 : ∀ d : Fin 2048, noBias (ix1 d) = 0 := fun d => by pointwise [noBias]
  rw [scores_apply]
  refine congrArg (Ideal.div · rootLen) (Finset.sum_congr rfl fun d _ => ?_)
  simp only [rowsByRows, projRows, ix2_0, ix2_1, h0, add_zero]

/-- An entry of the reference's mixed values, as the kernel computes it. -/
theorem attended_fused {a₀ : FVec Ideal S256x2048 .f32} {w : FVec Ideal S2048x2048 .f32} {b : FVec Ideal S2048 .f32}
    {x y : FVec Ideal S256x8x2048 .f32} {u : FVec Ideal S2048x2048 .f32} {v : FVec Ideal S2048 .f32}
    {t : FVec Ideal S4096x4096 .f32} {β : FVec Ideal S4096 .f32} {q : Fin 256} {j : Fin 2048}
    (ha : ∀ i, IsReal (a₀ i)) (hw : ∀ i, IsReal (w i)) (hb : ∀ i, IsReal (b i)) (hx : ∀ k d, IsReal (x (ix3 q k d)))
    (hy : ∀ d, Steady fun k => y (ix3 q k d)) (hu : ∀ i, IsReal (u i)) (hv : ∀ i, IsReal (v i))
    (ht : ∀ (d : Fin 4096) (n : Fin 2048), IsReal (t (ix2 d ⟨n.val, by omega⟩))) :
    attended (weights (refScores a₀ w b x u v)) x y t β (ix2 q j) =
      (∑ d : Fin 2048, mixed (weights (scores x (rowsByRows (projRows a₀ w b) u noBias))) x (ix2 q d)
          * t (ix2 ⟨d.val, by omega⟩ ⟨j.val, by omega⟩)
        + ∑ d : Fin 2048, mixed (weights (scores x (rowsByRows (projRows a₀ w b) u noBias))) y (ix2 q d)
          * t (ix2 ⟨2048 + d.val, by omega⟩ ⟨j.val, by omega⟩))
      + β (ix1 ⟨j.val, by omega⟩) := by
  simp only [attended_apply, mixed_apply, weights_apply, refScores_apply, kernelScores_apply]
  exact fused_eq (x := fun k d => x (ix3 q k d)) (y := fun k d => y (ix3 q k d)) (q := fun e => affine a₀ w b q e)
    (W := fun d e => u (ix2 d e)) (b := fun e => v (ix1 e))
    (U := fun d : Fin 2048 => t (ix2 ⟨d.val, by omega⟩ ⟨j.val, by omega⟩))
    (V := fun d : Fin 2048 => t (ix2 ⟨2048 + d.val, by omega⟩ ⟨j.val, by omega⟩))
    hx hy (fun e => (IsReal.sum fun d => (ha _).mul (hw _)).add (hb _)) (fun _ _ => hu _) (fun _ => hv _)
    (fun _ => ht _ _) (fun _ => ht _ _) rootLen_real.1 rootLen_real.2

/-- The two-layer map of real features with real weights is steady, whatever its biases. -/
theorem mlp_steady {e : Fin 8 → Fin 300 → EReal} {w₁ : FVec Ideal S300x1024 .f32} {b₁ : Fin 1024 → EReal}
    {w₂ : FVec Ideal S1024x2048 .f32} {b₂ : Fin 2048 → EReal} (he : ∀ k d, IsReal (e k d)) (hw₁ : ∀ i, IsReal (w₁ i))
    (hw₂ : ∀ i, IsReal (w₂ i)) (n : Fin 2048) : Steady fun k => mlp (e k) w₁ b₁ w₂ b₂ n :=
  (Steady.sum _ fun h => (((Steady.of_real fun k => IsReal.sum fun d => (he k d).mul (hw₁ (ix2 d h))).add
    (.const (b₁ h))).cut).mul (hw₂ (ix2 h n))).add (.const (b₂ n))

/-- Stored rows read at positions in range are stored rows. -/
theorem keyRows_apply {x : FVec Ideal S16384x2048 .f32} {i : IVec S256x8 32} {q : Fin 256} {k : Fin 8} (d : Fin 2048)
    (h : (i (ix2 q k)).toNat < 16384) : keyRows x i (ix3 q k d) = x (ix2 ⟨(i (ix2 q k)).toNat, h⟩ d) :=
  takeRows_apply d (by decide) (by decide) h

/-- The kernel's mapped rows, entry by entry. -/
theorem labelRows_apply {e : FVec Ideal S51x300 .f32} {w₁ : FVec Ideal S300x1024 .f32} {b₁ : FVec Ideal S1024 .f32}
    {w₂ : FVec Ideal S1024x2048 .f32} {b₂ : FVec Ideal S2048 .f32} {i : IVec S256x8 32} {q : Fin 256} {k : Fin 8}
    (n : Fin 2048) (h : (i (ix2 q k)).toNat < 51) :
    labelRows (tableRows e w₁ (broadcastInDim Cert.KernelIdeal.S1x1024 ![1] Cert.KernelIdeal.Gen.bcast_S1024_S1x1024_1 b₁)
        w₂ (broadcastInDim S1x2048 ![1] Cert.KernelIdeal.Gen.bcast_S2048_S1x2048_1 b₂)) i (ix3 q k n) =
      mlp (fun d => e (ix2 ⟨(i (ix2 q k)).toNat, h⟩ d)) w₁ (fun h => b₁ (ix1 h)) w₂ (fun n => b₂ (ix1 n)) n := by
  refine (takeRows_apply n (by decide) (by decide) h).trans ?_
  pointwise [tableRows]

variable (L : Valuation τ sig (Elt Ideal))

/-- The reference's mapped rows at labels in range, entry by entry. -/
theorem refRows_apply {q : Fin 256} {k : Fin 8} (n : Fin 2048) (h : (res_main_v13 L (ix2 q k)).toNat < 51) :
    refRows L (ix3 q k n) = mlp (fun d => (L (Proc.devRef .tc main_arg3)) (ix2 ⟨(res_main_v13 L (ix2 q k)).toNat, h⟩ d))
      (L (Proc.devRef .tc main_arg4)) (fun h => L (Proc.devRef .tc main_arg5) (ix1 h)) (L (Proc.devRef .tc main_arg6))
      (fun n => L (Proc.devRef .tc main_arg7) (ix1 n)) n := by
  refine (mapped_apply _ _ _ _ _ q k n).trans ?_
  congr 1
  funext d
  exact takeRows_apply d (by decide) (by decide) h

/-- The kernel's first result as a function of its arguments. -/
def kernelOut (a₀ : FVec Ideal S256x2048 .f32) (a₁ : FVec Ideal S16384x2048 .f32) (a₂ : IVec S16384 32)
    (a₃ : FVec Ideal S51x300 .f32) (a₄ : FVec Ideal S300x1024 .f32) (a₅ : FVec Ideal S1024 .f32)
    (a₆ : FVec Ideal S1024x2048 .f32) (a₇ : FVec Ideal S2048 .f32) (a₈ : FVec Ideal S2048x2048 .f32)
    (a₉ : FVec Ideal S2048 .f32) (a₁₀ : FVec Ideal S2048x2048 .f32) (a₁₂ : FVec Ideal S4096x4096 .f32)
    (a₁₃ : FVec Ideal S4096 .f32) : FVec Ideal S256x2048 .f32 :=
  let x := keyRows a₁ (found a₀ a₁).2
  let a := weights (scores x (rowsByRows (projRows a₀ a₈ a₉) a₁₀ noBias))
  let y := labelRows (tableRows a₃ a₄
    (broadcastInDim Cert.KernelIdeal.S1x1024 ![1] Cert.KernelIdeal.Gen.bcast_S1024_S1x1024_1 a₅) a₆
    (broadcastInDim S1x2048 ![1] Cert.KernelIdeal.Gen.bcast_S2048_S1x2048_1 a₇)) (labelTable a₂ (found a₀ a₁).2)
  fusedRows (mixed a x) (mixed a y)
    (extractStridedSlice S2048x2048 ![0, 0] a₁₂ Cert.KernelIdeal.Gen.slices_S4096x4096_S2048x2048_0_0)
    (extractStridedSlice S2048x2048 ![2048, 0] a₁₂ Cert.KernelIdeal.Gen.slices_S4096x4096_S2048x2048_2048_0)
    (extractStridedSlice S2048 ![0] a₁₃ Cert.KernelIdeal.Gen.slices_S4096_S2048_0) a₀

/-- It is what the kernel's stages leave. -/
theorem kernelOut_eq (m : (ℓ : Loc Cert.KernelIdeal.nD Cert.KernelIdeal.τ Cert.KernelIdeal.sig) → Buf (Elt Ideal) ℓ)
    (c : Dev Cert.KernelIdeal.nD) : Cert.KernelIdeal.Reads.out m c = kernelOut
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7))
      (m ((c : Thread Cert.KernelIdeal.nD Cert.KernelIdeal.τ).loc Cert.KernelIdeal.main_arg8))
      (m ((c : Thread Cert.KernelIdeal.nD Cert.KernelIdeal.τ).loc Cert.KernelIdeal.main_arg9))
      (m ((c : Thread Cert.KernelIdeal.nD Cert.KernelIdeal.τ).loc Cert.KernelIdeal.main_arg10))
      (m ((c : Thread Cert.KernelIdeal.nD Cert.KernelIdeal.τ).loc Cert.KernelIdeal.main_arg12))
      (m ((c : Thread Cert.KernelIdeal.nD Cert.KernelIdeal.τ).loc Cert.KernelIdeal.main_arg13)) := rfl

/-- The reference's fusion of its mixed values `f` with the query `r`. -/
def fusedValues (f r : FVec Ideal S256x2048 .f32) : FVec Ideal S256x2048 .f32 :=
  subf (maximumf (addf f r) (broadcastInDim S256x2048 ![] bcast_S_S256x2048 (constant S_ .f32 0x00000000#32)))
    (mulf (subf f r) (subf f r))

/-- Entry by entry, it is the fusion. -/
theorem fusedValues_apply (f r : FVec Ideal S256x2048 .f32) (q : Fin 256) (j : Fin 2048) :
    fusedValues f r (ix2 q j) = fuse (f (ix2 q j)) (r (ix2 q j)) := by
  pointwise [fusedValues, fuse]

/-- Arrays that agree at every pair of coordinates are equal. -/
theorem ext_ix2 {f g : FVec Ideal S256x2048 .f32} (h : ∀ (q : Fin 256) (j : Fin 2048), f (ix2 q j) = g (ix2 q j)) :
    f = g :=
  funext fun i => by
    rw [← ix2_eta i]
    exact h _ _

/-- Where the precondition holds of the arguments, the reference's first result is the kernel's. -/
theorem out_eq (hpre : Cert.Pre_finite_and_labelled.fn (F := Ideal) (L (Proc.devRef .tc main_arg0))
      (L (Proc.devRef .tc main_arg1)) (L (Proc.devRef .tc main_arg2)) (L (Proc.devRef .tc main_arg3))
      (L (Proc.devRef .tc main_arg4)) (L (Proc.devRef .tc main_arg5)) (L (Proc.devRef .tc main_arg6))
      (L (Proc.devRef .tc main_arg7)) (L (Proc.devRef .tc main_arg8)) (L (Proc.devRef .tc main_arg9))
      (L (Proc.devRef .tc main_arg10)) (L (Proc.devRef .tc main_arg11)) (L (Proc.devRef .tc main_arg12))
      (L (Proc.devRef .tc main_arg13)) = fun _ => 1#1) :
    fusedValues (res_main_v54 L) (L (Proc.devRef .tc main_arg0)) = kernelOut (L (Proc.devRef .tc main_arg0))
      (L (Proc.devRef .tc main_arg1)) (L (Proc.devRef .tc main_arg2)) (L (Proc.devRef .tc main_arg3))
      (L (Proc.devRef .tc main_arg4)) (L (Proc.devRef .tc main_arg5)) (L (Proc.devRef .tc main_arg6))
      (L (Proc.devRef .tc main_arg7)) (L (Proc.devRef .tc main_arg8)) (L (Proc.devRef .tc main_arg9))
      (L (Proc.devRef .tc main_arg10)) (L (Proc.devRef .tc main_arg12)) (L (Proc.devRef .tc main_arg13)) := by
  obtain ⟨h0, h1, h2, h3, h4, h6, h8, h9, h10, h11, h12⟩ := Cert.Pre_finite_and_labelled.fn_real hpre
  have hp : ∀ j : S256x8.Idx, (res_main_indices L j).toNat < 16384 := fun j => topK_lt _ _ _ j
  have hl : ∀ (q : Fin 256) (k : Fin 8), (res_main_v13 L (ix2 q k)).toNat < 51 := fun q k =>
    takeWords_lt (N := 16384) (by decide) (by decide) (hp _) h2
  refine ext_ix2 fun q j => ?_
  have hx : ∀ k d, IsReal (res_main_v12 L (ix3 q k d)) := fun k d => by
    have e : res_main_v12 L (ix3 q k d) = _ := keyRows_apply d (hp (ix2 q k))
    rw [e]
    exact h1 _
  have hy : ∀ d, Steady fun k => refRows L (ix3 q k d) := fun d => by
    rw [funext fun k => refRows_apply L d (hl q k)]
    exact mlp_steady (fun _ _ => h3 _) h4 h6 d
  have hrows : ∀ (a : FVec Ideal S256x8 .f32) (d : Fin 2048), mixed a (refRows L) (ix2 q d) = mixed a
      (labelRows (tableRows (L (Proc.devRef .tc main_arg3)) (L (Proc.devRef .tc main_arg4))
        (broadcastInDim Cert.KernelIdeal.S1x1024 ![1] Cert.KernelIdeal.Gen.bcast_S1024_S1x1024_1
          (L (Proc.devRef .tc main_arg5))) (L (Proc.devRef .tc main_arg6))
        (broadcastInDim S1x2048 ![1] Cert.KernelIdeal.Gen.bcast_S2048_S1x2048_1 (L (Proc.devRef .tc main_arg7))))
        (res_main_v13 L)) (ix2 q d) := fun a d => by
    rw [mixed_apply, mixed_apply]
    refine Finset.sum_congr rfl fun k _ => ?_
    rw [refRows_apply L d (hl q k)]
    exact congrArg _ (labelRows_apply d (hl q k)).symm
  refine (fusedValues_apply _ _ q j).trans ?_
  rw [attended_eq, refScores_eq]
  refine (congrArg (fuse · _) (attended_fused (q := q) (j := j) h0 h8 h9 hx hy h10 h11 h12)).trans ?_
  simp only [hrows]
  rw [keys_eq, labels_eq, pos_eq]
  pointwise [kernelOut, fusedRows]

end Cert.ReferenceIdeal.Reads

end

end
-- ==== Proof.lean ====
/-
  The proof of the certificate's claim: the three programs run, leave their arguments unchanged and end with every
  counter at zero; the kernel read over the extended reals is the kernel's own text; and, where the precondition holds,
  its three results there are the reference's.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Result
public import Idealize.ShloMosaic.Lib.Claim

@[expose] public section

set_option maxRecDepth 16384

noncomputable section

namespace Cert.Proof

open Idealize.ShloMosaic Idealize.ShloMosaic.TcCoe Idealize.SL.Sem
open Idealize.ShloMosaic.StableHlo (launchContents)
open Cert.KernelIdeal.Gen Cert.KernelIdeal.Reads Cert.ReferenceIdeal.Reads

/-- The reference runs, leaves its arguments unchanged and ends with every counter at zero. -/
theorem reference_frame : Cert.quiescent_ReferenceIdeal (hReferenceIdeal := Cert.ReferenceIdeal.Gen.facts) :=
  fun m ρ _ => (θ_run _ _ _).mono
    (fun r h => ⟨fun c => (h c).2.2.2, sem_eq_zero_of_no_sems (by decide) r.2⟩) (Cert.ReferenceIdeal.Value.run m ρ)

/-- The kernel over the extended reals runs to its three results, its arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
      r.2.mem ((c.tc : Thread Cert.KernelIdeal.nD Cert.KernelIdeal.τ).loc Cert.KernelIdeal.main_v35) = out m c ∧
      r.2.mem ((c.tc : Thread Cert.KernelIdeal.nD Cert.KernelIdeal.τ).loc Cert.KernelIdeal.main_values) =
        (found (arg m c Cert.KernelIdeal.main_arg0) (arg m c Cert.KernelIdeal.main_arg1)).1 ∧
      r.2.mem ((c.tc : Thread Cert.KernelIdeal.nD Cert.KernelIdeal.τ).loc Cert.KernelIdeal.main_v6) = labels m c ∧
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧
      r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧
      r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧
      r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧
      r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) ∧
      r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) ∧
      r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) ∧
      r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) ∧
      r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8) ∧
      r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9) ∧
      r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10) ∧
      r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11) ∧
      r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12) ∧
      r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run _ _ _).mono (fun r h c => ⟨
      (h c _ (mem_uc Cert.KernelIdeal.main_v35 (by decide))).trans (W13_out m ρ c),
      (h c _ (mem_uc Cert.KernelIdeal.main_values (by decide))).trans (W13_values m ρ c),
      (h c _ (mem_uc Cert.KernelIdeal.main_v6 (by decide))).trans (W13_labels m ρ c),
      (h c _ (mem_uc Cert.KernelIdeal.main_arg0 (by decide))).trans (W13_args m ρ c Cert.KernelIdeal.main_arg0 (by decide)),
      (h c _ (mem_uc Cert.KernelIdeal.main_arg1 (by decide))).trans (W13_args m ρ c Cert.KernelIdeal.main_arg1 (by decide)),
      (h c _ (mem_uc Cert.KernelIdeal.main_arg2 (by decide))).trans (W13_args m ρ c Cert.KernelIdeal.main_arg2 (by decide)),
      (h c _ (mem_uc Cert.KernelIdeal.main_arg3 (by decide))).trans (W13_args m ρ c Cert.KernelIdeal.main_arg3 (by decide)),
      (h c _ (mem_uc Cert.KernelIdeal.main_arg4 (by decide))).trans (W13_args m ρ c Cert.KernelIdeal.main_arg4 (by decide)),
      (h c _ (mem_uc Cert.KernelIdeal.main_arg5 (by decide))).trans (W13_args m ρ c Cert.KernelIdeal.main_arg5 (by decide)),
      (h c _ (mem_uc Cert.KernelIdeal.main_arg6 (by decide))).trans (W13_args m ρ c Cert.KernelIdeal.main_arg6 (by decide)),
      (h c _ (mem_uc Cert.KernelIdeal.main_arg7 (by decide))).trans (W13_args m ρ c Cert.KernelIdeal.main_arg7 (by decide)),
      (h c _ (mem_uc Cert.KernelIdeal.main_arg8 (by decide))).trans (W13_args m ρ c Cert.KernelIdeal.main_arg8 (by decide)),
      (h c _ (mem_uc Cert.KernelIdeal.main_arg9 (by decide))).trans (W13_args m ρ c Cert.KernelIdeal.main_arg9 (by decide)),
      (h c _ (mem_uc Cert.KernelIdeal.main_arg10 (by decide))).trans (W13_args m ρ c Cert.KernelIdeal.main_arg10 (by decide)),
      (h c _ (mem_uc Cert.KernelIdeal.main_arg11 (by decide))).trans (W13_args m ρ c Cert.KernelIdeal.main_arg11 (by decide)),
      (h c _ (mem_uc Cert.KernelIdeal.main_arg12 (by decide))).trans (W13_args m ρ c Cert.KernelIdeal.main_arg12 (by decide)),
      (h c _ (mem_uc Cert.KernelIdeal.main_arg13 (by decide))).trans (W13_args m ρ c Cert.KernelIdeal.main_arg13 (by decide))⟩)
    (run_all m ρ)

/-- Where the precondition holds, the kernel's three results over the extended reals are the reference's. -/
theorem algebraic : Cert.algebraic_KernelIdeal_ReferenceIdeal_pre_finite_and_labelled
    (hKernelIdeal := Cert.KernelIdeal.Gen.facts) (hReferenceIdeal := Cert.ReferenceIdeal.Gen.facts)
    (hPre_finite_and_labelled := Cert.Pre_finite_and_labelled.facts) := by
  intro m ρ m' ρ' hpre hagree
  refine ⟨_, _, _, kernel_run m ρ, (θ_run _ _ _).mono (fun r h c => ?_) (Cert.ReferenceIdeal.Value.run m' ρ')⟩
  obtain ⟨hout, hvalues, hlabels, hargs⟩ := h c
  obtain ⟨h0, h1, h2, h3, h4, h5, h6, h7, h8, h9, h10, h11, h12, h13⟩ := hagree c
  have hp := hpre c
  refine ⟨hout.trans ?_, hvalues.trans ?_, hlabels.trans ?_, hargs⟩
  · rw [kernelOut_eq]
    rw [← h0, ← h1, ← h2, ← h3, ← h4, ← h5, ← h6, ← h7, ← h8, ← h9, ← h10, ← h11, ← h12, ← h13] at hp
    rw [← h0, ← h1, ← h2, ← h3, ← h4, ← h5, ← h6, ← h7, ← h8, ← h9, ← h10, ← h12, ← h13]
    exact out_eq (launchContents m' c) hp
  · unfold arg
    rw [← h0, ← h1]
    exact values_eq (launchContents m' c)
  · unfold labels pos arg
    rw [← h0, ← h1, ← h2]
    exact (labels_eq (launchContents m' c)).trans (congrArg _ (pos_eq (launchContents m' c)))

/-- Everything the certificate claims. -/
theorem claim : Cert.Claim :=
  ⟨Cert.Kernel.Gen.facts, Cert.KernelIdeal.Gen.facts, Cert.ReferenceIdeal.Gen.facts, Cert.Pre_finite_and_labelled.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial,
    algebraic⟩

end Cert.Proof

end

end
